-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_sqrt_depth" .f32 0x3E3504F3#32 (((Real.sqrt 32)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_indices)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_indices_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_indices_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_indices_8) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_indices_10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x128x2048 : Shape := ⟨3, ![4, 128, 2048]⟩
abbrev S128x128 : Shape := ⟨2, ![128, 128]⟩
abbrev S_ : Shape := ⟨0, ![]⟩

class Facts : Prop where
  bcast_S_S4x128x2048 : S_.BroadcastsInDim S4x128x2048 (![] : Fin 0 → Fin S4x128x2048.rank)
  bcast_S_S128x128 : S_.BroadcastsInDim S128x128 (![] : Fin 0 → Fin S128x128.rank)

variable [Facts]

def fn {F : FTy → Type} [FloatOps F] (main_arg0 : FVec F S4x128x2048 .f32) (main_arg1 : FVec F S128x128 .f32) (main_arg2 : FVec F S128x128 .f32) (main_arg3 : FVec F S128x128 .f32) : IVec S4x128x2048 1 × IVec S128x128 1 × IVec S128x128 1 :=
  let main_v0 : FVec F S4x128x2048 .f32 := Host.absf main_arg0
  let main_cst : FVec F S_ .f32 := constant S_ .f32 0x7F800000#32
  let main_v1 : FVec F S4x128x2048 .f32 := broadcastInDim S4x128x2048 ![] bcast_S_S4x128x2048 main_cst
  let main_v2 : IVec S4x128x2048 1 := cmpf .olt main_v0 main_v1
  let main_v3 : FVec F S128x128 .f32 := Host.absf main_arg1
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  (main_v2, main_v5, main_v8)
-- ==== Kernel.lean ====
abbrev S4x128x2048 : Shape := ⟨3, ![4, 128, 2048]⟩
abbrev S128x128 : Shape := ⟨2, ![128, 128]⟩
abbrev S4x2048x32 : Shape := ⟨3, ![4, 2048, 32]⟩
abbrev S1x128x256 : Shape := ⟨3, ![1, 128, 256]⟩
abbrev S1x128x2048 : Shape := ⟨3, ![1, 128, 2048]⟩
abbrev S1x256x32 : Shape := ⟨3, ![1, 256, 32]⟩
abbrev S128x256 : Shape := ⟨2, ![128, 256]⟩
abbrev S128x2048 : Shape := ⟨2, ![128, 2048]⟩
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S1x256 : Shape := ⟨2, ![1, 256]⟩
abbrev S256x1 : Shape := ⟨2, ![256, 1]⟩
abbrev S256x32 : Shape := ⟨2, ![256, 32]⟩
abbrev S4x32x2048 : Shape := ⟨3, ![4, 32, 2048]⟩
abbrev S4x4x2048 : Shape := ⟨3, ![4, 4, 2048]⟩
abbrev S1x128x128 : Shape := ⟨3, ![1, 128, 128]⟩
abbrev S1x32x128 : Shape := ⟨3, ![1, 32, 128]⟩
abbrev S1x4x128 : Shape := ⟨3, ![1, 4, 128]⟩
abbrev S32x128 : Shape := ⟨2, ![32, 128]⟩
abbrev S1x128 : Shape := ⟨2, ![1, 128]⟩
abbrev S2048x128 : Shape := ⟨2, ![2048, 128]⟩
abbrev S128x4096 : Shape := ⟨2, ![128, 4096]⟩
abbrev S4x32x4096 : Shape := ⟨3, ![4, 32, 4096]⟩
abbrev S4x4096 : Shape := ⟨2, ![4, 4096]⟩
abbrev S4x32x128 : Shape := ⟨3, ![4, 32, 128]⟩
abbrev S4x128x32 : Shape := ⟨3, ![4, 128, 32]⟩
abbrev S4x128 : Shape := ⟨2, ![4, 128]⟩
abbrev S4x128x1 : Shape := ⟨3, ![4, 128, 1]⟩
abbrev S4x1x128 : Shape := ⟨3, ![4, 1, 128]⟩
abbrev S4x4x1024 : Shape := ⟨3, ![4, 4, 1024]⟩
abbrev S4x4x32x2048 : Shape := ⟨4, ![4, 4, 32, 2048]⟩
abbrev S4x4x1x1024 : Shape := ⟨4, ![4, 4, 1, 1024]⟩
abbrev S4x4x32x1024 : Shape := ⟨4, ![4, 4, 32, 1024]⟩
abbrev S_ : Shape := ⟨0, ![]⟩
abbrev S4x4x32x1024x1 : Shape := ⟨5, ![4, 4, 32, 1024, 1]⟩
abbrev S1 : Shape := ⟨1, ![1]⟩
abbrev S1x1x1x1x1 : Shape := ⟨5, ![1, 1, 1, 1, 1]⟩
abbrev S4x128x1024 : Shape := ⟨3, ![4, 128, 1024]⟩

abbrev nBuf : Space → Nat
  | .hbm => 64
  | .vmem => 19
  | .smem => 0
  | _ => 0

abbrev bufTy : (tb : Table) → Fin (tcTables nBuf tb) → BufTy
  | .hbm, ⟨0, _⟩ => ⟨S4x128x2048, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S4x2048x32, .i32⟩
  | .hbm, ⟨5, _⟩ => ⟨S4x32x2048, .i32⟩
  | .hbm, ⟨6, _⟩ => ⟨S4x128x2048, .f32⟩
  | .hbm, ⟨7, _⟩ => ⟨S4x4x2048, .f32⟩
  | .hbm, ⟨8, _⟩ => ⟨S4x4x1024, .f32⟩
  | .hbm, ⟨9, _⟩ => ⟨S4x4x1024, .i32⟩
  | .hbm, ⟨10, _⟩ => ⟨S4x4x2048, .f32⟩
  | .hbm, ⟨11, _⟩ => ⟨S4x4x1024, .f32⟩
  | .hbm, ⟨12, _⟩ => ⟨S4x4x1024, .i32⟩
  | .hbm, ⟨13, _⟩ => ⟨S4x4x32x2048, .f32⟩
  | .hbm, ⟨14, _⟩ => ⟨S4x4x1x1024, .i32⟩
  | .hbm, ⟨15, _⟩ => ⟨S4x4x32x1024, .i32⟩
  | .hbm, ⟨16, _⟩ => ⟨S_, .i32⟩
  | .hbm, ⟨17, _⟩ => ⟨S4x4x32x1024, .i32⟩
  | .hbm, ⟨18, _⟩ => ⟨S4x4x32x1024, .i1⟩
  | .hbm, ⟨19, _⟩ => ⟨S_, .i32⟩
  | .hbm, ⟨20, _⟩ => ⟨S4x4x32x1024, .i32⟩
  | .hbm, ⟨21, _⟩ => ⟨S4x4x32x1024, .i32⟩
  | .hbm, ⟨22, _⟩ => ⟨S4x4x32x1024, .i32⟩
  | .hbm, ⟨23, _⟩ => ⟨S4x4x32x1024x1, .i32⟩
  | .hbm, ⟨24, _⟩ => ⟨S1, .i32⟩
  | .hbm, ⟨25, _⟩ => ⟨S_, .i32⟩
  | .hbm, ⟨26, _⟩ => ⟨S4x4x32x1024x1, .i32⟩
  | .hbm, ⟨27, _⟩ => ⟨S4x4x32x1024x1, .i1⟩
  | .hbm, ⟨28, _⟩ => ⟨S1x1x1x1x1, .i32⟩
  | .hbm, ⟨29, _⟩ => ⟨S4x4x32x1024x1, .i32⟩
  | .hbm, ⟨30, _⟩ => ⟨S4x4x32x1024x1, .i1⟩
  | .hbm, ⟨31, _⟩ => ⟨S4x4x32x1024x1, .i1⟩
  | .hbm, ⟨32, _⟩ => ⟨S_, .i1⟩
  | .hbm, ⟨33, _⟩ => ⟨S4x4x32x1024, .i1⟩
  | .hbm, ⟨34, _⟩ => ⟨S4x4x32x1024, .f32⟩
  | .hbm, ⟨35, _⟩ => ⟨S_, .f32⟩
  | .hbm, ⟨36, _⟩ => ⟨S4x4x32x1024, .f32⟩
  | .hbm, ⟨37, _⟩ => ⟨S4x4x32x1024, .f32⟩
  | .hbm, ⟨38, _⟩ => ⟨S4x128x1024, .f32⟩
  | .hbm, ⟨39, _⟩ => ⟨S4x4x1x1024, .i32⟩
  | .hbm, ⟨40, _⟩ => ⟨S4x4x32x1024, .i32⟩
  | .hbm, ⟨41, _⟩ => ⟨S_, .i32⟩
  | .hbm, ⟨42, _⟩ => ⟨S4x4x32x1024, .i32⟩
  | .hbm, ⟨43, _⟩ => ⟨S4x4x32x1024, .i1⟩
  | .hbm, ⟨44, _⟩ => ⟨S_, .i32⟩
  | .hbm, ⟨45, _⟩ => ⟨S4x4x32x1024, .i32⟩
  | .hbm, ⟨46, _⟩ => ⟨S4x4x32x1024, .i32⟩
  | .hbm, ⟨47, _⟩ => ⟨S4x4x32x1024, .i32⟩
  | .hbm, ⟨48, _⟩ => ⟨S4x4x32x1024x1, .i32⟩
  | .hbm, ⟨49, _⟩ => ⟨S1, .i32⟩
  | .hbm, ⟨50, _⟩ => ⟨S_, .i32⟩
  | .hbm, ⟨51, _⟩ => ⟨S4x4x32x1024x1, .i32⟩
  | .hbm, ⟨52, _⟩ => ⟨S4x4x32x1024x1, .i1⟩
  | .hbm, ⟨53, _⟩ => ⟨S1x1x1x1x1, .i32⟩
  | .hbm, ⟨54, _⟩ => ⟨S4x4x32x1024x1, .i32⟩
  | .hbm, ⟨55, _⟩ => ⟨S4x4x32x1024x1, .i1⟩
  | .hbm, ⟨56, _⟩ => ⟨S4x4x32x1024x1, .i1⟩
  | .hbm, ⟨57, _⟩ => ⟨S_, .i1⟩
  | .hbm, ⟨58, _⟩ => ⟨S4x4x32x1024, .i1⟩
  | .hbm, ⟨59, _⟩ => ⟨S4x4x32x1024, .f32⟩
  | .hbm, ⟨60, _⟩ => ⟨S_, .f32⟩
  | .hbm, ⟨61, _⟩ => ⟨S4x4x32x1024, .f32⟩
  | .hbm, ⟨62, _⟩ => ⟨S4x4x32x1024, .f32⟩
  | .hbm, ⟨63, _⟩ => ⟨S4x128x1024, .f32⟩
  | .local _ .vmem, ⟨0, _⟩ => ⟨S1x128x256, .f32⟩
  | .local _ .vmem, ⟨1, _⟩ => ⟨S1x128x256, .f32⟩
  | .local _ .vmem, ⟨2, _⟩ => ⟨S1x128x2048, .f32⟩
  | .local _ .vmem, ⟨3, _⟩ => ⟨S1x128x2048, .f32⟩
  | .local _ .vmem, ⟨4, _⟩ => ⟨S1x256x32, .i32⟩
  | .local _ .vmem, ⟨5, _⟩ => ⟨S1x256x32, .i32⟩
  | .local _ .vmem, ⟨6, _⟩ => ⟨S1x128x128, .f32⟩
  | .local _ .vmem, ⟨7, _⟩ => ⟨S1x128x128, .f32⟩
  | .local _ .vmem, ⟨8, _⟩ => ⟨S1x128x2048, .f32⟩
  | .local _ .vmem, ⟨9, _⟩ => ⟨S1x128x2048, .f32⟩
  | .local _ .vmem, ⟨10, _⟩ => ⟨S1x32x128, .i32⟩
  | .local _ .vmem, ⟨11, _⟩ => ⟨S1x32x128, .i32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S1x128x128, .f32⟩
  | .local _ .vmem, ⟨16, _⟩ => ⟨S1x128x128, .f32⟩
  | .local _ .vmem, ⟨17, _⟩ => ⟨S1x4x128, .f32⟩
  | .local _ .vmem, ⟨18, _⟩ => ⟨S1x4x128, .f32⟩
  | _, _ => ⟨S4x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_values : Ref sig .tc := ⟨.hbm, 8, rfl⟩
abbrev main_indices : Ref sig .tc := ⟨.hbm, 9, rfl⟩
abbrev main_v3 : Ref sig .tc := ⟨.hbm, 10, rfl⟩
abbrev main_values_0 : Ref sig .tc := ⟨.hbm, 11, rfl⟩
abbrev main_indices_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v11 : Ref sig .tc := ⟨.hbm, 62, rfl⟩
abbrev main_v12 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_9 : BitVec 32 := 0#32
  let c32_i32 : BitVec 32 := 32#32
  let v23 : BitVec 32 := Scalar.addi c0_i32_9 c32_i32
  let c1_i32 : BitVec 32 := 1#32
  ⟨c0_i32_9, v23, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "inv_sqrt_depth" => some (((Real.sqrt 32)⁻¹ : ℝ) : EReal)
  | "log2e" => some (((Real.log 2)⁻¹ : ℝ) : EReal)
  | _ => none
-- ==== ReferenceIdeal.lean ====
abbrev S4x128x2048 : Shape := ⟨3, ![4, 128, 2048]⟩
abbrev S128x128 : Shape := ⟨2, ![128, 128]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x32 : Shape := ⟨3, ![4, 2048, 32]⟩
abbrev S4x2048x32x1 : Shape := ⟨4, ![4, 2048, 32, 1]⟩
abbrev S4x128x2048x32 : Shape := ⟨4, ![4, 128, 2048, 32]⟩
abbrev S4x128x2048x1 : Shape := ⟨4, ![4, 128, 2048, 1]⟩
abbrev S4x2048x128 : Shape := ⟨3, ![4, 2048, 128]⟩
abbrev S4x2048x32x128 : Shape := ⟨4, ![4, 2048, 32, 128]⟩
abbrev S4x4x32x2048x1 : Shape := ⟨5, ![4, 4, 32, 2048, 1]⟩
abbrev S4x4x2048x1x32 : Shape := ⟨5, ![4, 4, 2048, 1, 32]⟩
abbrev S4x4x32x2048x32 : Shape := ⟨5, ![4, 4, 32, 2048, 32]⟩
abbrev S4x4x2048x32x32 : Shape := ⟨5, ![4, 4, 2048, 32, 32]⟩
abbrev S4x4x2048x1 : Shape := ⟨4, ![4, 4, 2048, 1]⟩
abbrev S4x4x2048x1x1 : Shape := ⟨5, ![4, 4, 2048, 1, 1]⟩
abbrev S4x4x2048 : Shape := ⟨3, ![4, 4, 2048]⟩
abbrev S4x4x1024 : Shape := ⟨3, ![4, 4, 1024]⟩
abbrev S4x4x1024x1x1 : Shape := ⟨5, ![4, 4, 1024, 1, 1]⟩
abbrev S4x4x1024x1x32 : Shape := ⟨5, ![4, 4, 1024, 1, 32]⟩
abbrev S4x4x1024x32x1 : Shape := ⟨5, ![4, 4, 1024, 32, 1]⟩
abbrev S1 : Shape := ⟨1, ![1]⟩
abbrev S1x1x1x1x1 : Shape := ⟨5, ![1, 1, 1, 1, 1]⟩
abbrev S4x4x1024x32 : Shape := ⟨4, ![4, 4, 1024, 32]⟩
abbrev S4x4x1024x32x32 : Shape := ⟨5, ![4, 4, 1024, 32, 32]⟩
abbrev S4x4x1024x32x32x1 : Shape := ⟨6, ![4, 4, 1024, 32, 32, 1]⟩
abbrev S1x1x1x1x1x1 : Shape := ⟨6, ![1, 1, 1, 1, 1, 1]⟩
abbrev S4x1024x4x32 : Shape := ⟨4, ![4, 1024, 4, 32]⟩
abbrev S4x1024x128 : Shape := ⟨3, ![4, 1024, 128]⟩
abbrev S4x128x1024 : Shape := ⟨3, ![4, 128, 1024]⟩

abbrev nBuf : Space → Nat
  | .hbm => 204
  | .vmem => 0
  | .smem => 0
  | _ => 0

abbrev hbmTy0_0 (i : Nat) : BufTy := match i % 128 with
  | 0 => ⟨S4x128x2048, .f32⟩
  | 1 => ⟨S128x128, .f32⟩
  | 2 => ⟨S128x128, .f32⟩
  | 3 => ⟨S128x128, .f32⟩
  | 4 => ⟨S4x2048x2048, .f32⟩
  | 5 => ⟨S_, .f32⟩
  | 6 => ⟨S4x2048x2048, .f32⟩
  | 7 => ⟨S4x2048x2048, .f32⟩
  | 8 => ⟨S4x128x2048, .f32⟩
  | 9 => ⟨S_, .f32⟩
  | 10 => ⟨S4x2048, .f32⟩
  | 11 => ⟨S4x2048x1, .f32⟩
  | 12 => ⟨S4x2048x1, .f32⟩
  | 13 => ⟨S4x2048x2048, .f32⟩
  | 14 => ⟨S4x2048x2048, .f32⟩
  | 15 => ⟨S4x1x2048, .f32⟩
  | 16 => ⟨S4x2048x2048, .f32⟩
  | 17 => ⟨S4x2048x2048, .f32⟩
  | 18 => ⟨S4x2048x32, .f32⟩
  | 19 => ⟨S4x2048x32, .i32⟩
  | 20 => ⟨S_, .i32⟩
  | 21 => ⟨S4x2048x32, .i32⟩
  | 22 => ⟨S4x2048x32, .i1⟩
  | 23 => ⟨S_, .i32⟩
  | 24 => ⟨S4x2048x32, .i32⟩
  | 25 => ⟨S4x2048x32, .i32⟩
  | 26 => ⟨S4x2048x32, .i32⟩
  | 27 => ⟨S4x2048x32x1, .i32⟩
  | 28 => ⟨S4x128x2048x32, .f32⟩
  | 29 => ⟨S4x128x2048x1, .f32⟩
  | 30 => ⟨S4x128x2048x32, .f32⟩
  | 31 => ⟨S4x128x2048x32, .f32⟩
  | 32 => ⟨S4x2048x128, .f32⟩
  | 33 => ⟨S4x128x2048, .f32⟩
  | 34 => ⟨S4x128x2048x1, .f32⟩
  | 35 => ⟨S4x2048x32x128, .f32⟩
  | 36 => ⟨S4x128x2048x32, .f32⟩
  | 37 => ⟨S4x2048x32x128, .f32⟩
  | 38 => ⟨S4x128x2048x32, .f32⟩
  | 39 => ⟨S4x4x32x2048x1, .f32⟩
  | 40 => ⟨S4x4x2048x1x32, .f32⟩
  | 41 => ⟨S4x4x32x2048x32, .f32⟩
  | 42 => ⟨S4x4x2048x32x32, .f32⟩
  | 43 => ⟨S4x4x32x2048x32, .f32⟩
  | 44 => ⟨S4x4x2048x32x32, .f32⟩
  | 45 => ⟨S4x4x2048x32x32, .f32⟩
  | 46 => ⟨S4x4x2048x1x32, .f32⟩
  | 47 => ⟨S_, .f32⟩
  | 48 => ⟨S_, .f32⟩
  | 49 => ⟨S_, .f32⟩
  | 50 => ⟨S4x4x2048x1x32, .f32⟩
  | 51 => ⟨S4x4x2048x1x32, .f32⟩
  | 52 => ⟨S_, .f32⟩
  | 53 => ⟨S4x4x2048x1, .f32⟩
  | 54 => ⟨S_, .f32⟩
  | 55 => ⟨S4x4x2048x1, .f32⟩
  | 56 => ⟨S4x4x2048x1, .f32⟩
  | 57 => ⟨S4x4x2048x1x1, .f32⟩
  | 58 => ⟨S4x4x2048x1x32, .f32⟩
  | 59 => ⟨S4x4x2048x1x32, .f32⟩
  | 60 => ⟨S4x4x2048x1x32, .f32⟩
  | 61 => ⟨S_, .f32⟩
  | 62 => ⟨S4x4x2048x1, .f32⟩
  | 63 => ⟨S4x4x2048x1x1, .f32⟩
  | 64 => ⟨S4x4x2048x1x32, .f32⟩
  | 65 => ⟨S4x4x2048x1x32, .f32⟩
  | 66 => ⟨S_, .i32⟩
  | 67 => ⟨S_, .f32⟩
  | 68 => ⟨S4x4x2048x1, .f32⟩
  | 69 => ⟨S4x4x2048x1x1, .f32⟩
  | 70 => ⟨S_, .f32⟩
  | 71 => ⟨S4x4x2048x1x1, .f32⟩
  | 72 => ⟨S4x4x2048x1x1, .f32⟩
  | 73 => ⟨S4x4x2048x1x32, .f32⟩
  | 74 => ⟨S4x4x2048x1x32, .f32⟩
  | 75 => ⟨S4x4x2048x1x32, .f32⟩
  | 76 => ⟨S_, .f32⟩
  | 77 => ⟨S_, .f32⟩
  | 78 => ⟨S_, .f32⟩
  | 79 => ⟨S_, .f32⟩
  | 80 => ⟨S4x4x2048x1, .f32⟩
  | 81 => ⟨S4x4x2048x1, .f32⟩
  | 82 => ⟨S4x4x2048x1, .f32⟩
  | 83 => ⟨S_, .f32⟩
  | 84 => ⟨S_, .i1⟩
  | 85 => ⟨S_, .f32⟩
  | 86 => ⟨S_, .f32⟩
  | 87 => ⟨S4x4x2048x1, .f32⟩
  | 88 => ⟨S4x4x2048x1, .f32⟩
  | 89 => ⟨S4x4x2048x1, .f32⟩
  | 90 => ⟨S4x4x2048, .f32⟩
  | 91 => ⟨S4x4x1024, .f32⟩
  | 92 => ⟨S4x4x1024, .i32⟩
  | 93 => ⟨S4x4x2048, .f32⟩
  | 94 => ⟨S4x4x1024, .f32⟩
  | 95 => ⟨S4x4x1024, .i32⟩
  | 96 => ⟨S4x4x1024x1x1, .i32⟩
  | 97 => ⟨S4x4x1024x1x32, .i32⟩
  | 98 => ⟨S_, .i32⟩
  | 99 => ⟨S4x4x1024x1x32, .i32⟩
  | 100 => ⟨S4x4x1024x1x32, .i1⟩
  | 101 => ⟨S_, .i32⟩
  | 102 => ⟨S4x4x1024x1x32, .i32⟩
  | 103 => ⟨S4x4x1024x1x32, .i32⟩
  | 104 => ⟨S4x4x1024x1x32, .i32⟩
  | 105 => ⟨S4x4x1024x32x1, .i32⟩
  | 106 => ⟨S1, .i32⟩
  | 107 => ⟨S_, .i32⟩
  | 108 => ⟨S4x4x1024x32x1, .i32⟩
  | 109 => ⟨S4x4x1024x32x1, .i1⟩
  | 110 => ⟨S1x1x1x1x1, .i32⟩
  | 111 => ⟨S4x4x1024x32x1, .i32⟩
  | 112 => ⟨S4x4x1024x32x1, .i1⟩
  | 113 => ⟨S4x4x1024x32x1, .i1⟩
  | 114 => ⟨S_, .i1⟩
  | 115 => ⟨S4x4x1024x32, .i1⟩
  | 116 => ⟨S4x4x1024x1x32, .f32⟩
  | 117 => ⟨S4x4x1024x1x32, .i1⟩
  | 118 => ⟨S_, .f32⟩
  | 119 => ⟨S4x4x1024x1x32, .f32⟩
  | 120 => ⟨S4x4x1024x1x32, .f32⟩
  | 121 => ⟨S4x4x1024x1x1, .i32⟩
  | 122 => ⟨S4x4x1024x32x32, .i32⟩
  | 123 => ⟨S_, .i32⟩
  | 124 => ⟨S4x4x1024x32x32, .i32⟩
  | 125 => ⟨S4x4x1024x32x32, .i1⟩
  | 126 => ⟨S_, .i32⟩
  | 127 => ⟨S4x4x1024x32x32, .i32⟩
  | _ => ⟨S4x128x2048, .f32⟩

abbrev hbmTy0_1 (i : Nat) : BufTy := match i % 128 with
  | 0 => ⟨S4x4x1024x32x32, .i32⟩
  | 1 => ⟨S4x4x1024x32x32, .i32⟩
  | 2 => ⟨S4x4x1024x32x32x1, .i32⟩
  | 3 => ⟨S1, .i32⟩
  | 4 => ⟨S_, .i32⟩
  | 5 => ⟨S4x4x1024x32x32x1, .i32⟩
  | 6 => ⟨S4x4x1024x32x32x1, .i1⟩
  | 7 => ⟨S1x1x1x1x1x1, .i32⟩
  | 8 => ⟨S4x4x1024x32x32x1, .i32⟩
  | 9 => ⟨S4x4x1024x32x32x1, .i1⟩
  | 10 => ⟨S4x4x1024x32x32x1, .i1⟩
  | 11 => ⟨S_, .i1⟩
  | 12 => ⟨S4x4x1024x32x32, .i1⟩
  | 13 => ⟨S4x4x1024x32x32, .f32⟩
  | 14 => ⟨S_, .f32⟩
  | 15 => ⟨S4x4x1024x32x32, .f32⟩
  | 16 => ⟨S4x4x1024x32x32, .f32⟩
  | 17 => ⟨S4x4x1024x1x32, .f32⟩
  | 18 => ⟨S4x4x1024x32, .f32⟩
  | 19 => ⟨S4x1024x4x32, .f32⟩
  | 20 => ⟨S4x1024x128, .f32⟩
  | 21 => ⟨S4x128x1024, .f32⟩
  | 22 => ⟨S4x4x1024x1x1, .i32⟩
  | 23 => ⟨S4x4x1024x1x32, .i32⟩
  | 24 => ⟨S_, .i32⟩
  | 25 => ⟨S4x4x1024x1x32, .i32⟩
  | 26 => ⟨S4x4x1024x1x32, .i1⟩
  | 27 => ⟨S_, .i32⟩
  | 28 => ⟨S4x4x1024x1x32, .i32⟩
  | 29 => ⟨S4x4x1024x1x32, .i32⟩
  | 30 => ⟨S4x4x1024x1x32, .i32⟩
  | 31 => ⟨S4x4x1024x32x1, .i32⟩
  | 32 => ⟨S1, .i32⟩
  | 33 => ⟨S_, .i32⟩
  | 34 => ⟨S4x4x1024x32x1, .i32⟩
  | 35 => ⟨S4x4x1024x32x1, .i1⟩
  | 36 => ⟨S1x1x1x1x1, .i32⟩
  | 37 => ⟨S4x4x1024x32x1, .i32⟩
  | 38 => ⟨S4x4x1024x32x1, .i1⟩
  | 39 => ⟨S4x4x1024x32x1, .i1⟩
  | 40 => ⟨S_, .i1⟩
  | 41 => ⟨S4x4x1024x32, .i1⟩
  | 42 => ⟨S4x4x1024x1x32, .f32⟩
  | 43 => ⟨S4x4x1024x1x32, .i1⟩
  | 44 => ⟨S_, .f32⟩
  | 45 => ⟨S4x4x1024x1x32, .f32⟩
  | 46 => ⟨S4x4x1024x1x32, .f32⟩
  | 47 => ⟨S4x4x1024x1x1, .i32⟩
  | 48 => ⟨S4x4x1024x32x32, .i32⟩
  | 49 => ⟨S_, .i32⟩
  | 50 => ⟨S4x4x1024x32x32, .i32⟩
  | 51 => ⟨S4x4x1024x32x32, .i1⟩
  | 52 => ⟨S_, .i32⟩
  | 53 => ⟨S4x4x1024x32x32, .i32⟩
  | 54 => ⟨S4x4x1024x32x32, .i32⟩
  | 55 => ⟨S4x4x1024x32x32, .i32⟩
  | 56 => ⟨S4x4x1024x32x32x1, .i32⟩
  | 57 => ⟨S1, .i32⟩
  | 58 => ⟨S_, .i32⟩
  | 59 => ⟨S4x4x1024x32x32x1, .i32⟩
  | 60 => ⟨S4x4x1024x32x32x1, .i1⟩
  | 61 => ⟨S1x1x1x1x1x1, .i32⟩
  | 62 => ⟨S4x4x1024x32x32x1, .i32⟩
  | 63 => ⟨S4x4x1024x32x32x1, .i1⟩
  | 64 => ⟨S4x4x1024x32x32x1, .i1⟩
  | 65 => ⟨S_, .i1⟩
  | 66 => ⟨S4x4x1024x32x32, .i1⟩
  | 67 => ⟨S4x4x1024x32x32, .f32⟩
  | 68 => ⟨S_, .f32⟩
  | 69 => ⟨S4x4x1024x32x32, .f32⟩
  | 70 => ⟨S4x4x1024x32x32, .f32⟩
  | 71 => ⟨S4x4x1024x1x32, .f32⟩
  | 72 => ⟨S4x4x1024x32, .f32⟩
  | 73 => ⟨S4x1024x4x32, .f32⟩
  | 74 => ⟨S4x1024x128, .f32⟩
  | 75 => ⟨S4x128x1024, .f32⟩
  | _ => ⟨S4x128x2048, .f32⟩

abbrev hbmTy (i : Nat) : BufTy := match i / 128 with
  | 0 => hbmTy0_0 i
  | 1 => hbmTy0_1 i
  | _ => ⟨S4x128x2048, .f32⟩

abbrev bufTy : (tb : Table) → Fin (tcTables nBuf tb) → BufTy
  | .hbm, ⟨i, _⟩ => hbmTy i
  | _, _ => ⟨S4x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_values : Ref sig .tc := ⟨.hbm, 18, rfl⟩
abbrev main_indices : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_6 : Ref sig .tc := ⟨.hbm, 66, rfl⟩
abbrev main_call0_call0_cst : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_call0_cst_0 : Ref sig .tc := ⟨.hbm, 70, rfl⟩
abbrev main_call0_call0_v2 : Ref sig .tc := ⟨.hbm, 71, rfl⟩
abbrev main_call0_call0_v3 : Ref sig .tc := ⟨.hbm, 72, rfl⟩
abbrev main_call0_call0_v4 : Ref sig .tc := ⟨.hbm, 73, rfl⟩
abbrev main_call0_call0_v5 : Ref sig .tc := ⟨.hbm, 74, rfl⟩
abbrev main_call0_call0_v6 : Ref sig .tc := ⟨.hbm, 75, rfl⟩
abbrev main_call0_call0_v7 : Ref sig .tc := ⟨.hbm, 76, rfl⟩
abbrev main_call0_call0_cst_1 : Ref sig .tc := ⟨.hbm, 77, rfl⟩
abbrev main_call0_call0_v8 : Ref sig .tc := ⟨.hbm, 78, rfl⟩
abbrev main_call0_call0_cst_2 : Ref sig .tc := ⟨.hbm, 79, rfl⟩
abbrev main_call0_call0_v9 : Ref sig .tc := ⟨.hbm, 80, rfl⟩
abbrev main_call0_call0_v10 : Ref sig .tc := ⟨.hbm, 81, rfl⟩
abbrev main_call0_call0_v11 : Ref sig .tc := ⟨.hbm, 82, rfl⟩
abbrev main_call0_call0_cst_3 : Ref sig .tc := ⟨.hbm, 83, rfl⟩
abbrev main_call0_call0_v12 : Ref sig .tc := ⟨.hbm, 84, rfl⟩
abbrev main_call0_call0_cst_4 : Ref sig .tc := ⟨.hbm, 85, rfl⟩
abbrev main_call0_call0_call0_v0 : Ref sig .tc := ⟨.hbm, 86, rfl⟩
abbrev main_call0_call0_call0_v1 : Ref sig .tc := ⟨.hbm, 87, rfl⟩
abbrev main_call0_v0 : Ref sig .tc := ⟨.hbm, 88, rfl⟩
abbrev main_v52 : Ref sig .tc := ⟨.hbm, 89, rfl⟩
abbrev main_v53 : Ref sig .tc := ⟨.hbm, 90, rfl⟩
abbrev main_values_7 : Ref sig .tc := ⟨.hbm, 91, rfl⟩
abbrev main_indices_8 : Ref sig .tc := ⟨.hbm, 92, rfl⟩
abbrev main_v54 : Ref sig .tc := ⟨.hbm, 93, rfl⟩
abbrev main_values_9 : Ref sig .tc := ⟨.hbm, 94, rfl⟩
abbrev main_indices_10 : Ref sig .tc := ⟨.hbm, 95, rfl⟩
abbrev main_v55 : Ref sig .tc := ⟨.hbm, 96, rfl⟩
abbrev main_v56 : Ref sig .tc := ⟨.hbm, 97, rfl⟩
abbrev main_call1_c : Ref sig .tc := ⟨.hbm, 98, rfl⟩
abbrev main_call1_v0 : Ref sig .tc := ⟨.hbm, 99, rfl⟩
abbrev main_call1_v1 : Ref sig .tc := ⟨.hbm, 100, rfl⟩
abbrev main_call1_c_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_c_1 : Ref sig .tc := ⟨.hbm, 106, rfl⟩
abbrev main_call1_c_2 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_c_3 : Ref sig .tc := ⟨.hbm, 114, rfl⟩
abbrev main_call1_v12 : Ref sig .tc := ⟨.hbm, 115, rfl⟩
abbrev main_call1_v13 : Ref sig .tc := ⟨.hbm, 116, rfl⟩
abbrev main_call1_v14 : Ref sig .tc := ⟨.hbm, 117, rfl⟩
abbrev main_call1_cst : Ref sig .tc := ⟨.hbm, 118, rfl⟩
abbrev main_call1_v15 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_call2_c : Ref sig .tc := ⟨.hbm, 123, rfl⟩
abbrev main_call2_v0 : Ref sig .tc := ⟨.hbm, 124, rfl⟩
abbrev main_call2_v1 : Ref sig .tc := ⟨.hbm, 125, rfl⟩
abbrev main_call2_c_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_c_1 : Ref sig .tc := ⟨.hbm, 131, rfl⟩
abbrev main_call2_c_2 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_c_3 : Ref sig .tc := ⟨.hbm, 139, rfl⟩
abbrev main_call2_v12 : Ref sig .tc := ⟨.hbm, 140, rfl⟩
abbrev main_call2_v13 : Ref sig .tc := ⟨.hbm, 141, rfl⟩
abbrev main_call2_cst : Ref sig .tc := ⟨.hbm, 142, rfl⟩
abbrev main_call2_v14 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_call3_c : Ref sig .tc := ⟨.hbm, 152, rfl⟩
abbrev main_call3_v0 : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_c_1 : Ref sig .tc := ⟨.hbm, 160, rfl⟩
abbrev main_call3_c_2 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_c_3 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_call3_cst : Ref sig .tc := ⟨.hbm, 172, rfl⟩
abbrev main_call3_v15 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_call4_c : Ref sig .tc := ⟨.hbm, 177, rfl⟩
abbrev main_call4_v0 : Ref sig .tc := ⟨.hbm, 178, rfl⟩
abbrev main_call4_v1 : Ref sig .tc := ⟨.hbm, 179, rfl⟩
abbrev main_call4_c_0 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_c_1 : Ref sig .tc := ⟨.hbm, 185, rfl⟩
abbrev main_call4_c_2 : Ref sig .tc := ⟨.hbm, 186, rfl⟩
abbrev main_call4_v6 : Ref sig .tc := ⟨.hbm, 187, rfl⟩
abbrev main_call4_v7 : Ref sig .tc := ⟨.hbm, 188, rfl⟩
abbrev main_call4_v8 : Ref sig .tc := ⟨.hbm, 189, rfl⟩
abbrev main_call4_v9 : Ref sig .tc := ⟨.hbm, 190, rfl⟩
abbrev main_call4_v10 : Ref sig .tc := ⟨.hbm, 191, rfl⟩
abbrev main_call4_v11 : Ref sig .tc := ⟨.hbm, 192, rfl⟩
abbrev main_call4_c_3 : Ref sig .tc := ⟨.hbm, 193, rfl⟩
abbrev main_call4_v12 : Ref sig .tc := ⟨.hbm, 194, rfl⟩
abbrev main_call4_v13 : Ref sig .tc := ⟨.hbm, 195, rfl⟩
abbrev main_call4_cst : Ref sig .tc := ⟨.hbm, 196, rfl⟩
abbrev main_call4_v14 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩

abbrev nD : Nat := 1
abbrev τ : Topo := Topo.v7x

variable {F : FTy → Type} [FloatOps F]
-- ==== Proof.Frames.lean ====
/- The claims about running: the kernel as compiled, its ideal program and the ideal reference run to the end and leave their
   arguments as they were; and the two constants that the ideal program names are the ones it names. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof.Frames

open Idealize.ShloMosaic Idealize.SL.Sem

/-- The compiled kernel runs to the end, changes no argument and leaves every counter at zero. -/
theorem kernel : Cert.quiescent_Kernel := fun m ρ _ => Cert.Kernel.Gen.frame m ρ

/-- The ideal kernel runs to the end, changes no argument and leaves every counter at zero. -/
theorem kernelIdeal : Cert.quiescent_KernelIdeal := fun m ρ _ => Cert.KernelIdeal.Gen.frame m ρ

/-- The ideal reference runs to the end, changes no argument and leaves every counter at zero. -/
theorem referenceIdeal : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The two named constants: `1/√32`, by which a score is scaled, and `1/ln 2`, by which an exponent changes its base. -/
theorem preserves : Cert.preserves_Kernel_KernelIdeal :=
  ⟨IdealRules.named_const.statement Cert.KernelIdeal.κ "inv_sqrt_depth" .f32 0x3E3504F3#32 (((Real.sqrt 32)⁻¹ : ℝ) : EReal) rfl,
   IdealRules.named_const.statement Cert.KernelIdeal.κ "log2e" .f32 0x3FB8AA3B#32 (((Real.log 2)⁻¹ : ℝ) : EReal) rfl⟩

end Cert.Proof.Frames

end
-- ==== Proof.Rounds.lean ====
/- Taking the greatest entry of a row over and over, each time striking out the entry taken, is a stable descending sort cut
   off after that many entries. Nothing here mentions a program. -/
module

public import Idealize.ShloMosaic.Lib.PlanTiles.StableSort
public import Idealize.ShloMosaic.PureOps.Ideal
public import Idealize.ShloMosaic.PureOps.Reduce

@[expose] public section

noncomputable section

namespace Cert.Rounds

open Idealize.ShloMosaic

variable {N : ℕ} (P : Fin N → EReal)

/-- Position `a` goes before position `b`: its entry is greater. -/
def before (a b : Fin N) : Bool := decide (P b < P a)

/-- The position that a stable descending sort of `P` puts at place `k`. -/
def place (k : Fin N) : Fin N := sortedFrom (before P) k

/-- How many entries are smaller than the one at `a`: a number that orders the positions as their entries do. -/
def below (a : Fin N) : ℕ := (Finset.univ.filter fun m => P m < P a).card

/-- Fewer entries are smaller than `P a` than are smaller than `P b` exactly when `P a` is less than `P b`. -/
theorem below_lt (a b : Fin N) : below P a < below P b ↔ P a < P b := by
  constructor
  · intro h
    by_contra hc
    refine absurd h (not_lt.mpr (Finset.card_le_card fun m hm => ?_))
    simp only [Finset.mem_filter, Finset.mem_univ, true_and] at hm ⊢
    exact hm.trans_le (not_lt.mp hc)
  · intro h
    refine Finset.card_lt_card ⟨fun m hm => ?_, fun hs => ?_⟩
    · simp only [Finset.mem_filter, Finset.mem_univ, true_and] at hm ⊢
      exact hm.trans h
    · have := hs (by simpa using h : a ∈ Finset.univ.filter fun m => P m < P b)
      simp at this

/-- Equal counts are equal entries. -/
theorem eq_of_below_eq (a b : Fin N) (h : below P a = below P b) : P a = P b := by
  rcases lt_trichotomy (P a) (P b) with h1 | h1 | h1
  · have := (below_lt P a b).mpr h1; omega
  · exact h1
  · have := (below_lt P b a).mpr h1; omega

/-- An earlier place of the sort holds a greater entry, or an equal entry from a lower position. -/
theorem place_sorted {i j : Fin N} (h : i < j) :
    P (place P j) < P (place P i) ∨ (P (place P i) = P (place P j) ∧ place P i < place P j) := by
  have e : before P = fun a b => decide (below P b < below P a) := by
    funext a b; unfold before; simp only [below_lt]
  have hs := PlanTiles.pairwise_stableSort_lex (below P) (· < ·) (List.finRange N) (List.pairwise_lt_finRange N)
  have hl := length_sortPositions N (before P)
  have := List.pairwise_iff_getElem.mp hs i.val j.val
    (by rw [length_stableSort, List.length_finRange]; exact i.isLt)
    (by rw [length_stableSort, List.length_finRange]; exact j.isLt) h
  have hp : ∀ k : Fin N, place P k = (stableSort (fun a b => decide (below P b < below P a)) (List.finRange N))[k.val]'(by
      rw [length_stableSort, List.length_finRange]; exact k.isLt) := by
    intro k; unfold place; rw [e]; rfl
  rw [hp i, hp j]
  rcases this with h1 | ⟨h1, h2⟩
  · exact Or.inl ((below_lt P _ _).mp h1)
  · exact Or.inr ⟨eq_of_below_eq P _ _ h1, h2⟩

/-- Different places come from different positions. -/
theorem place_injective : Function.Injective (place P) := sortedFrom_injective _

/-- Every position is at some place. -/
theorem exists_place (n : Fin N) : ∃ k, place P k = n := sortedFrom_surjective _ n

/-- `P` with the positions of the first `k` places struck out, that is, set to minus infinity. -/
def struck (k : ℕ) (n : Fin N) : EReal := if ∃ j : Fin N, j.val < k ∧ place P j = n then ⊥ else P n

/-- Nothing struck out yet. -/
theorem struck_zero : struck P 0 = P := by funext n; simp [struck]

/-- Striking out one more. -/
theorem struck_succ (k : Fin N) : struck P (k.val + 1) = fun n => if n = place P k then ⊥ else struck P k.val n := by
  funext n
  unfold struck
  by_cases hn : n = place P k
  · subst hn
    rw [if_pos ⟨k, Nat.lt_succ_self _, rfl⟩, if_pos rfl]
  · rw [if_neg hn]
    refine if_congr ⟨?_, ?_⟩ rfl rfl
    · rintro ⟨j, hj, rfl⟩
      refine ⟨j, ?_, rfl⟩
      rcases Nat.lt_succ_iff_lt_or_eq.mp hj with h | h
      · exact h
      · exact absurd (congrArg (place P) (Fin.ext h)) hn
    · rintro ⟨j, hj, rfl⟩; exact ⟨j, by omega, rfl⟩

/-- At its own turn a position is not struck out. -/
theorem struck_place (k : Fin N) : struck P k.val (place P k) = P (place P k) := by
  unfold struck
  refine if_neg ?_
  rintro ⟨j, hj, h⟩
  have := place_injective P h
  omega

/-- At turn `k` the position at place `k` holds the greatest entry left, provided no entry of `P` is minus infinity;
    and any position with the same entry left comes after it. -/
theorem struck_top (hP : ∀ n, P n ≠ ⊥) (k n : Fin N) :
    struck P k.val n ≤ P (place P k) ∧ (struck P k.val n = P (place P k) → place P k ≤ n) := by
  by_cases h : ∃ j : Fin N, j.val < k.val ∧ place P j = n
  · have e : struck P k.val n = ⊥ := if_pos h
    rw [e]
    exact ⟨bot_le, fun h' => absurd h'.symm (hP _)⟩
  · have e : struck P k.val n = P n := if_neg h
    rw [e]
    obtain ⟨j, rfl⟩ := exists_place P n
    have hkj : ¬ j.val < k.val := fun hj => h ⟨j, hj, rfl⟩
    rcases Nat.lt_or_eq_of_le (Nat.le_of_not_lt hkj) with hlt | heq
    · rcases place_sorted P (i := k) (j := j) hlt with h1 | ⟨h1, h2⟩
      · exact ⟨h1.le, fun h' => absurd h' h1.ne⟩
      · exact ⟨h1.ge, fun _ => h2.le⟩
    · obtain rfl : k = j := Fin.ext heq
      exact ⟨le_rfl, fun _ => le_rfl⟩

/-- The greatest entry, taken from minus infinity up, of a row all of whose entries are at most `v` and one is `v`. -/
theorem fold_max_eq {M : ℕ} (f : Fin M → EReal) (v : EReal) (p : Fin M) (hp : f p = v) (h : ∀ n, f n ≤ v) :
    Finset.univ.fold max ⊥ f = v := by
  refine le_antisymm ?_ ?_
  · exact Finset.fold_max_le v |>.mpr ⟨bot_le, fun n _ => h n⟩
  · exact Finset.le_fold_max v |>.mpr (Or.inr ⟨p, Finset.mem_univ p, hp.ge⟩)

/-- The least of signed words, taken from `z` down: one of the words or `z`, and none is less. -/
theorem fold_minsi_spec {ι : Type} [DecidableEq ι] (s : Finset ι) (f : ι → BitVec 32) (z : BitVec 32) :
    (s.fold IntOp.minsi z f = z ∨ ∃ n ∈ s, s.fold IntOp.minsi z f = f n)
      ∧ (s.fold IntOp.minsi z f).toInt ≤ z.toInt ∧ ∀ n ∈ s, (s.fold IntOp.minsi z f).toInt ≤ (f n).toInt := by
  induction s using Finset.induction_on with
  | empty => simp
  | insert a s ha ih =>
    rw [Finset.fold_insert ha]
    obtain ⟨h1, h2, h3⟩ := ih
    generalize s.fold IntOp.minsi z f = r at h1 h2 h3 ⊢
    by_cases hc : (f a).slt r = true
    · have e : IntOp.minsi (f a) r = f a := if_pos hc
      have hlt : (f a).toInt < r.toInt := by simpa [BitVec.slt] using hc
      rw [e]
      refine ⟨Or.inr ⟨a, Finset.mem_insert_self _ _, rfl⟩, by omega, fun n hn => ?_⟩
      rcases Finset.mem_insert.mp hn with rfl | hn
      · exact le_rfl
      · have := h3 n hn; omega
    · have e : IntOp.minsi (f a) r = r := if_neg hc
      have hle : r.toInt ≤ (f a).toInt := by simpa [BitVec.slt] using hc
      rw [e]
      refine ⟨?_, h2, fun n hn => ?_⟩
      · rcases h1 with h1 | ⟨n, hn, h1⟩
        · exact Or.inl h1
        · exact Or.inr ⟨n, Finset.mem_insert_of_mem hn, h1⟩
      · rcases Finset.mem_insert.mp hn with rfl | hn
        · exact hle
        · exact h3 n hn

/-- The least marked position, as a word: the words are the positions where marked and 2048 elsewhere. -/
theorem fold_minsi_eq (f : Fin 2048 → BitVec 32) (p : Fin 2048) (hp : f p = BitVec.ofNat 32 p.val)
    (h : ∀ n, f n = 2048#32 ∨ (f n = BitVec.ofNat 32 n.val ∧ p ≤ n)) :
    Finset.univ.fold IntOp.minsi 2147483647#32 f = BitVec.ofNat 32 p.val := by
  have hw : ∀ n : ℕ, n ≤ 2048 → (BitVec.ofNat 32 n).toInt = n := by
    intro n hn
    rw [BitVec.toInt_eq_toNat_of_lt (by rw [BitVec.toNat_ofNat]; omega), BitVec.toNat_ofNat]
    omega
  obtain ⟨h1, -, h3⟩ := fold_minsi_spec Finset.univ f 2147483647#32
  have h3p := h3 p (Finset.mem_univ _)
  generalize Finset.univ.fold IntOp.minsi 2147483647#32 f = r at h1 h3p ⊢
  rw [hp, hw _ p.isLt.le] at h3p
  have hpl := p.isLt
  rcases h1 with rfl | ⟨n, -, rfl⟩
  · have : (2147483647#32 : BitVec 32).toInt = 2147483647 := by decide
    omega
  · rcases h n with e | ⟨e, hn⟩
    · rw [e, hw 2048 le_rfl] at h3p; omega
    · rw [e, hw _ n.isLt.le] at h3p
      have : n = p := Fin.ext (by have : p.val ≤ n.val := hn; omega)
      rw [e, this]

end Cert.Rounds

end
-- ==== Proof.Pick.lean ====
/- How the host's top-k and the gathers that follow it read at one position. Both programs pick positions of the last axis this
   way. Nothing here mentions a program. -/
module

public import proofs.«01_k».proof.Proof.Rounds
public import Idealize.ShloMosaic.Lib.Pointwise
public import Idealize.ShloMosaic.Lib.WordCmp
public import Idealize.ShloMosaic.PureOps.Ideal

@[expose] public section

noncomputable section

namespace Cert.Pick

open Idealize.ShloMosaic

/-- Entry `k` of the positions that a top-k along the last of three axes returns is the word of the position which a stable
    descending sort of that row puts at place `k`. -/
theorem topK_place {A B N K : ℕ} (hK : K ≤ N) (x : FVec Ideal ⟨3, ![A, B, N]⟩ .f32)
    (h : (⟨3, ![A, B, N]⟩ : Shape).Slices (fun _ => 0) ⟨3, ![A, B, K]⟩) (a : Fin A) (b : Fin B) (k : Fin K) :
    (Host.topK ⟨3, ![A, B, K]⟩ 2 (FloatOps.cmpfTotal (F := Ideal) .gt) x h).2 (ix3 a b k)
      = BitVec.ofNat 32 (Rounds.place (fun m : Fin N => x (ix3 a b m)) ⟨k.val, k.isLt.trans_le hK⟩).val := by
  have hal : ∀ (J : (⟨3, ![A, B, N]⟩ : Shape).Idx) (m : Fin N), J 0 = a → J 1 = b →
      Shape.Idx.along J (2 : Fin 3) m = ix3 a b m := by
    intro J m h0 h1
    funext e
    match e with
    | ⟨0, _⟩ => exact h0
    | ⟨1, _⟩ => exact h1
    | ⟨2, _⟩ => rfl
  have hJ : (fun e : Fin 3 => (⟨0 + ((ix3 a b k : (⟨3, ![A, B, K]⟩ : Shape).Idx) (e.cast h.1.symm)).val,
      Nat.lt_of_lt_of_le (Nat.add_lt_add_left (Fin.isLt _) _) (h.2 e)⟩ : Fin ((⟨3, ![A, B, N]⟩ : Shape).size e)))
      = ix3 a b ⟨k.val, k.isLt.trans_le hK⟩ := by
    funext e
    match e with
    | ⟨0, _⟩ => exact Fin.ext (Nat.zero_add _)
    | ⟨1, _⟩ => exact Fin.ext (Nat.zero_add _)
    | ⟨2, _⟩ => exact Fin.ext (Nat.zero_add _)
  have hs : ∀ J : (⟨3, ![A, B, N]⟩ : Shape).Idx,
      (Host.sort2 ⟨3, ![A, B, N]⟩ 2 (fun l r : EReal × BitVec 32 => FloatOps.cmpfTotal (F := Ideal) (φ := .f32) .gt l.1 r.1) x
        (fun i => if hd : 2 < 3 then iotaInDim ⟨3, ![A, B, N]⟩ 32 ⟨2, hd⟩ i else 0#32)).2 J
      = BitVec.ofNat 32 (sortedFrom (fun m m' : Fin N => FloatOps.cmpfTotal (F := Ideal) (φ := .f32) .gt
          (x (Shape.Idx.along J (2 : Fin 3) m)) (x (Shape.Idx.along J (2 : Fin 3) m')) == 1#1) (J 2)).val := fun J => by
    unfold Host.sort2
    rfl
  refine (congrArg _ hJ).trans ((hs _).trans ?_)
  unfold Rounds.place
  congr 2
  refine congrFun (congrArg _ ?_) _
  funext m m'
  rw [hal _ m rfl rfl, hal _ m' rfl rfl]
  unfold Rounds.before
  by_cases hc : x (ix3 a b m') < x (ix3 a b m)
  · simp [Ideal.cmpfTotal_def, Ideal.cmp, CmpDirection.ordered, hc]
  · simp [Ideal.cmpfTotal_def, Ideal.cmp, CmpDirection.ordered, hc]

/-- A position's word is not negative as a signed number, so a wrap of negative words leaves it. -/
theorem wrap_word (q : Fin 2048) :
    Scalar.select (IntOp.cmpi .slt (BitVec.ofNat 32 q.val) 0#32) (IntOp.addi (BitVec.ofNat 32 q.val) 2048#32) (BitVec.ofNat 32 q.val)
      = BitVec.ofNat 32 q.val := by
  have hs : (BitVec.ofNat 32 q.val).toInt = q.val := WordCmp.toInt_ofNat_of_lt (by have := q.isLt; omega)
  have h : (BitVec.ofNat 32 q.val).slt 0#32 = false := by
    simp [BitVec.slt, hs]
  simp [IntOp.cmpi, Scalar.select, h]

/-- A position's word, read as a signed number, is the position. -/
theorem toInt_word (q : Fin 2048) : (BitVec.ofNat 32 q.val).toInt.toNat = q.val := by
  have hs : (BitVec.ofNat 32 q.val).toInt = q.val := WordCmp.toInt_ofNat_of_lt (by have := q.isLt; omega)
  rw [hs]; rfl

/-- A position's word passes the bounds test of the gathers. -/
theorem bounds_word (q : Fin 2048) :
    IntOp.andi (IntOp.cmpi .sge (BitVec.ofNat 32 q.val) 0#32) (IntOp.cmpi .sle (BitVec.ofNat 32 q.val) 2047#32) = 1#1 := by
  have hs : (BitVec.ofNat 32 q.val).toInt = q.val := WordCmp.toInt_ofNat_of_lt (by have := q.isLt; omega)
  have h0 : (0#32).sle (BitVec.ofNat 32 q.val) = true := by simp [BitVec.sle, hs]
  have h1 : (BitVec.ofNat 32 q.val).sle 2047#32 = true := by
    have := q.isLt
    simp [BitVec.sle, hs]; omega
  simp [IntOp.cmpi, IntOp.andi, h0, h1]

/-- Where a table holds a position's word at every place that the bounds test reads, the test keeps what the gather read. -/
theorem in_bounds_of {ι α : Type} (s : Finset ι) (f : ι → BitVec 32) (q : Fin 2048) (h : ∀ i ∈ s, f i = BitVec.ofNat 32 q.val) (u v : α) :
    Scalar.select (Finset.fold IntOp.andi (1#1)
      (fun x => IntOp.andi (IntOp.cmpi .sge (f x) 0#32) (IntOp.cmpi .sle (f x) 2047#32)) s) u v = u := by
  classical
  have e : ∀ t ⊆ s, Finset.fold IntOp.andi (1#1)
      (fun x => IntOp.andi (IntOp.cmpi .sge (f x) 0#32) (IntOp.cmpi .sle (f x) 2047#32)) t = 1#1 := by
    intro t
    induction t using Finset.induction_on with
    | empty => exact fun _ => rfl
    | insert a t ha ih =>
      intro ht
      rw [Finset.fold_insert ha, ih fun x hx => ht (Finset.mem_insert_of_mem hx), h a (ht (Finset.mem_insert_self a t)), bounds_word]
      rfl
  rw [e s subset_rfl]
  rfl

/-- The same for a test that reads one place. -/
theorem in_bounds {α : Type} (f : Fin 1 → BitVec 32) (q : Fin 2048) (h : f 0 = BitVec.ofNat 32 q.val) (u v : α) :
    Scalar.select (Finset.fold IntOp.andi (1#1)
      (fun x => IntOp.andi (IntOp.cmpi .sge (f x) 0#32) (IntOp.cmpi .sle (f x) 2047#32)) Finset.univ) u v = u :=
  in_bounds_of _ f q (fun i _ => Subsingleton.elim 0 i ▸ h) u v

end Cert.Pick
-- ==== Proof.Host.lean ====
/- The host lines after the second launch: the two top-k's and the two gathers, read at one position. -/
module

public import proofs.«01_k».proof.Proof.Pick
public import proofs.«01_k».proof.Proof.Gen.KernelIdeal.Frame
public import Idealize.ShloMosaic.Lib.Pointwise
public import Idealize.ShloMosaic.Lib.StableHlo.RunRead
public import Idealize.ShloMosaic.Lib.StableHlo.ReadAt
public import Idealize.ShloMosaic.Lib.Tactic.CleanTypes

@[expose] public section

set_option maxRecDepth 16384

noncomputable section

namespace Cert.KernelIdeal.Host

open Idealize.ShloMosaic Idealize.ShloMosaic.TcCoe Idealize.ShloMosaic.Tactic
open Cert.KernelIdeal Cert.KernelIdeal.Gen

/-- A table of positions with the negative ones wrapped, in the form the gather reads. -/
def wrap (I : IVec S4x4x32x1024 32) : IVec S4x4x32x1024x1 32 :=
  shapeCast _ (select (cmpi .slt I (broadcastInDim S4x4x32x1024 ![] bcast_S_S4x4x32x1024 (constantI S_ 32 0#32)))
    (addi I (broadcastInDim S4x4x32x1024 ![] bcast_S_S4x4x32x1024 (constantI S_ 32 2048#32))) I)
    shapeCasts_S4x4x32x1024_S4x4x32x1024x1

/-- What the host's take along the last axis computes from an array and a table of positions. -/
def take (A : FVec Ideal S4x4x32x2048 .f32) (I : IVec S4x4x32x1024 32) : FVec Ideal S4x4x32x1024 .f32 :=
  select (Host.reduce IntOp.andi (andi (cmpi .sge (wrap I) (broadcastInDim S4x4x32x1024x1 ![] bcast_S_S4x4x32x1024x1 (constantI S_ 32 0#32)))
      (cmpi .sle (wrap I) (broadcastInDim S4x4x32x1024x1 ![0, 1, 2, 3, 4] bcast_S1x1x1x1x1_S4x4x32x1024x1_0_1_2_3_4
        (broadcastInDim S1x1x1x1x1 ![4] bcast_S1_S1x1x1x1x1_4 (constantI S1 32 2047#32)))))
      (constantI S_ 1 1#1) reducesTo_S4x4x32x1024x1_S4x4x32x1024_d4 h_S_)
    (Host.gather gather_S4x4x32x2048_S4x4x32x1024x1_S4x4x32x1024_n_3_012_012_3_4_1111 A (wrap I))
    (broadcastInDim S4x4x32x1024 ![] bcast_S_S4x4x32x1024 (constant S_ .f32 0x7FC00000#32))

/-- The gather at one position, where the table holds the word of a position of the last axis. -/
theorem gather_at (A : FVec Ideal S4x4x32x2048 .f32) (J : IVec S4x4x32x1024x1 32) (b h : Fin 4) (d : Fin 32) (r : Fin 1024) (q : Fin 2048)
    (hJ : J (ix5 b h d r 0) = BitVec.ofNat 32 q.val) :
    Host.gather gather_S4x4x32x2048_S4x4x32x1024x1_S4x4x32x1024_n_3_012_012_3_4_1111 A J (ix4 b h d r) = A (ix4 b h d q) := by
  refine congrArg A (funext fun e => Fin.ext ?_)
  have hs : gather_S4x4x32x2048_S4x4x32x1024x1_S4x4x32x1024_n_3_012_012_3_4_1111.siIdx (ix4 b h d r) ⟨0, by decide⟩ = ix5 b h d r 0 := by
    funext e
    match e with
    | ⟨0, _⟩ => rfl
    | ⟨1, _⟩ => rfl
    | ⟨2, _⟩ => rfl
    | ⟨3, _⟩ => rfl
    | ⟨4, _⟩ => rfl
  match e with
  | ⟨0, _⟩ => exact (by omega : 0 + b.val + 0 = b.val)
  | ⟨1, _⟩ => exact (by omega : 0 + h.val + 0 = h.val)
  | ⟨2, _⟩ => exact (by omega : 0 + d.val + 0 = d.val)
  | ⟨3, _⟩ =>
    show min (J (gather_S4x4x32x2048_S4x4x32x1024x1_S4x4x32x1024_n_3_012_012_3_4_1111.siIdx (ix4 b h d r) ⟨0, by decide⟩)).toInt.toNat (2048 - 1) + 0 + 0 = q.val
    rw [hs, hJ, Pick.toInt_word]
    have := q.isLt
    omega

/-- The wrap leaves the word of a position. -/
theorem wrap_at (I : IVec S4x4x32x1024 32) (b h : Fin 4) (d : Fin 32) (r : Fin 1024) (q : Fin 2048)
    (hI : I (ix4 b h d r) = BitVec.ofNat 32 q.val) : wrap I (ix5 b h d r 0) = BitVec.ofNat 32 q.val := by
  pointwise [wrap]
  rw [hI]
  exact Pick.wrap_word q

/-- The take at one position, where the table holds the word of a position of the last axis. -/
theorem take_at (A : FVec Ideal S4x4x32x2048 .f32) (I : IVec S4x4x32x1024 32) (b h : Fin 4) (d : Fin 32) (r : Fin 1024) (q : Fin 2048)
    (hI : I (ix4 b h d r) = BitVec.ofNat 32 q.val) : take A I (ix4 b h d r) = A (ix4 b h d q) := by
  have hw := wrap_at I b h d r q hI
  have hg := gather_at A (wrap I) b h d r q hw
  unfold take
  pointwise
  rw [hg]
  exact Pick.in_bounds (fun x => wrap I (ix5 b h d r x)) q hw _ _

section Reads
variable (m : (ℓ : Loc nD τ sig) → Buf (Elt Ideal) ℓ) (ρ : Dev nD → PrngReg) (c : Dev nD)

/-- The positions of the greatest entries of a `[4, 4, 2048]` array's rows, as the host's top-k returns them. -/
def top (X : FVec Ideal S4x4x2048 .f32) : IVec S4x4x1024 32 :=
  (Host.topK S4x4x1024 2 (FloatOps.cmpfTotal .gt) X sliceFits_S4x4x2048_S4x4x1024).2

/-- A table of positions repeated over the channels of a head. -/
def spreadOut (I : IVec S4x4x1024 32) : IVec S4x4x32x1024 32 :=
  broadcastInDim S4x4x32x1024 ![0, 1, 2, 3] bcast_S4x4x1x1024_S4x4x32x1024_0_1_2_3
    (broadcastInDim S4x4x1x1024 ![0, 1, 3] bcast_S4x4x1024_S4x4x1x1024_0_1_3 I)

/-- An output of the program: the columns of the attention's output that a table of positions names. -/
def columns (Y : FVec Ideal S4x128x2048 .f32) (I : IVec S4x4x1024 32) : FVec Ideal S4x128x1024 .f32 :=
  shapeCast _ (take (shapeCast _ Y shapeCasts_S4x128x2048_S4x4x32x2048) (spreadOut I)) shapeCasts_S4x4x32x1024_S4x128x1024

/-- The second result, as the run leaves it. -/
theorem end_indices : W8 m ρ c (Proc.devRef .tc main_indices) = top (W3 m ρ c (Proc.devRef .tc main_v2_1)) := by
  rw [W8_of m ρ c _ (by decide), W7_of m ρ c _ (by decide), W6_of m ρ c _ (by decide), W5_of m ρ c _ (by decide)]
  unfold W4
  after_reads_simp
  rfl

/-- The fourth result, as the run leaves it. -/
theorem end_indices_1 : W8 m ρ c (Proc.devRef .tc main_indices_1) = top (Host.negf (W3 m ρ c (Proc.devRef .tc main_v2_1))) := by
  rw [W8_of m ρ c _ (by decide), W7_of m ρ c _ (by decide), W6_of m ρ c _ (by decide), W5_of m ρ c _ (by decide)]
  unfold W4
  after_reads_simp
  rfl

/-- The attention's output by heads, before the gathers. -/
theorem read_v4 : W4 m ρ c (Proc.devRef .tc main_v4)
    = shapeCast _ (W3 m ρ c (Proc.devRef .tc main_v2_0)) shapeCasts_S4x128x2048_S4x4x32x2048 := by
  unfold W4
  after_reads_simp
  rfl

/-- The first gather's table. -/
theorem read_v6 : W4 m ρ c (Proc.devRef .tc main_v6) = spreadOut (top (W3 m ρ c (Proc.devRef .tc main_v2_1))) := by
  unfold W4
  after_reads_simp
  rfl

/-- What the first gather computes. -/
theorem read_v7 : W5 m ρ c (Proc.devRef .tc main_v7)
    = take (W4 m ρ c (Proc.devRef .tc main_v4)) (W4 m ρ c (Proc.devRef .tc main_v6)) := by
  unfold W5
  generalize W4 m ρ c = V
  after_reads_simp
  simp -implicitDefEqProofs only [StableHlo.TRef.toBuf, StableHlo.TRef.ofBuf, cast_cast, cast_eq]
  clean_types
  rfl

/-- The first result, as the run leaves it. -/
theorem end_v8 : W8 m ρ c (Proc.devRef .tc main_v8)
    = columns (W3 m ρ c (Proc.devRef .tc main_v2_0)) (top (W3 m ρ c (Proc.devRef .tc main_v2_1))) := by
  rw [W8_of m ρ c _ (by decide), W7_of m ρ c _ (by decide)]
  have e : W6 m ρ c (Proc.devRef .tc main_v8)
      = shapeCast _ (W5 m ρ c (Proc.devRef .tc main_v7)) shapeCasts_S4x4x32x1024_S4x128x1024 := by
    unfold W6
    after_reads_simp
    rfl
  rw [e, read_v7, read_v4, read_v6]
  rfl

/-- The second gather's table. -/
theorem read_v10 : W6 m ρ c (Proc.devRef .tc main_v10)
    = spreadOut (top (Host.negf (W3 m ρ c (Proc.devRef .tc main_v2_1)))) := by
  have e : W5 m ρ c (Proc.devRef .tc main_indices_1) = top (Host.negf (W3 m ρ c (Proc.devRef .tc main_v2_1))) := by
    rw [W5_of m ρ c _ (by decide)]
    unfold W4
    after_reads_simp
    rfl
  rw [← e]
  unfold W6
  after_reads_simp
  rfl

/-- The third result, as the run leaves it. -/
theorem end_v12 : W8 m ρ c (Proc.devRef .tc main_v12)
    = columns (W3 m ρ c (Proc.devRef .tc main_v2_0)) (top (Host.negf (W3 m ρ c (Proc.devRef .tc main_v2_1)))) := by
  have e : W8 m ρ c (Proc.devRef .tc main_v12)
      = shapeCast _ (W7 m ρ c (Proc.devRef .tc main_v11)) shapeCasts_S4x4x32x1024_S4x128x1024 := by
    unfold W8
    after_reads_simp
    rfl
  have e1 : W7 m ρ c (Proc.devRef .tc main_v11)
      = take (W6 m ρ c (Proc.devRef .tc main_v4)) (W6 m ρ c (Proc.devRef .tc main_v10)) := by
    unfold W7
    generalize W6 m ρ c = V
    after_reads_simp
    simp -implicitDefEqProofs only [StableHlo.TRef.toBuf, StableHlo.TRef.ofBuf, cast_cast, cast_eq]
    clean_types
    rfl
  rw [e, e1, read_v10, W6_of m ρ c _ (by decide), W5_of m ρ c _ (by decide), read_v4]
  rfl

end Reads

/-- A chosen column, where the table holds the word of a position. -/
theorem columns_at (Y : FVec Ideal S4x128x2048 .f32) (I : IVec S4x4x1024 32) (b h : Fin 4) (d : Fin 32) (r : Fin 1024) (q : Fin 2048)
    (ch : Fin 128) (hch : ch.val = h.val * 32 + d.val) (hI : I (ix3 b h r) = BitVec.ofNat 32 q.val) :
    columns Y I (ix3 b ch r) = Y (ix3 b ch q) := by
  have ht := take_at (shapeCast _ Y shapeCasts_S4x128x2048_S4x4x32x2048) (spreadOut I) b h d r q
    (by pointwise [spreadOut]; exact hI)
  have e1 : columns Y I (ix3 b ch r) = take (shapeCast _ Y shapeCasts_S4x128x2048_S4x4x32x2048) (spreadOut I) (ix4 b h d r) := by
    unfold columns
    generalize take (shapeCast _ Y shapeCasts_S4x128x2048_S4x4x32x2048) (spreadOut I) = T
    pointwise
    have eh : (⟨ch.val / 32, by omega⟩ : Fin 4) = h := Fin.ext (by have := d.isLt; show ch.val / 32 = h.val; omega)
    have ed : (⟨ch.val % 32, by omega⟩ : Fin 32) = d := Fin.ext (by have := d.isLt; show ch.val % 32 = d.val; omega)
    rw [eh, ed]
  rw [e1, ht]
  pointwise
  exact congrArg (fun u => Y (ix3 b u q)) (Fin.ext hch.symm)

end Cert.KernelIdeal.Host
-- ==== Proof.Spec.lean ====
/- The mathematics that the kernel and the reference both compute, entry by entry, over the extended reals: for every point the
   order of the others by distance, its 32 neighbours, attention over them, and the spread of the attention row. -/
module

public import proofs.«01_k».proof.Proof.Rounds

@[expose] public section

noncomputable section

namespace Cert.Spec

open Idealize.ShloMosaic

/-- A batch of points: batch, channel, point. -/
abbrev Points := Fin 4 → Fin 128 → Fin 2048 → EReal

/-- A square matrix of weights: output channel, input channel. -/
abbrev Weights := Fin 128 → Fin 128 → EReal

/-- The negated squared distance from point `n` to point `m`, in the expanded form that both programs evaluate. -/
def nearness (x : Points) (b : Fin 4) (n m : Fin 2048) : EReal :=
  0 - ∑ c, x b c n * x b c n - Ideal.ofBits .f32 0xC0000000#32 * ∑ c, x b c n * x b c m - ∑ c, x b c m * x b c m

/-- The `k`-th nearest point to point `n`, the lower position first where two are as near. -/
def near (x : Points) (b : Fin 4) (n : Fin 2048) (k : Fin 32) : Fin 2048 :=
  Rounds.place (nearness x b n) (k.castLE (by decide))

/-- The neighbour's offset from the point. -/
def offset (x : Points) (b : Fin 4) (c : Fin 128) (n : Fin 2048) (k : Fin 32) : EReal :=
  x b c (near x b n k) - x b c n

/-- Channel `d` of head `h`. -/
def chan (h : Fin 4) (d : Fin 32) : Fin 128 := ⟨h.val * 32 + d.val, by omega⟩

/-- The query of a point. -/
def query (x : Points) (wq : Weights) (b : Fin 4) (o : Fin 128) (n : Fin 2048) : EReal := ∑ c, wq o c * x b c n

/-- A linear map of a neighbour's offset: the key or the value, by the weights. -/
def lift (x : Points) (w : Weights) (b : Fin 4) (o : Fin 128) (n : Fin 2048) (k : Fin 32) : EReal :=
  ∑ c, w o c * offset x b c n k

/-- The scaled score of a neighbour under one head. -/
def score (x : Points) (wq wk : Weights) (b : Fin 4) (h : Fin 4) (n : Fin 2048) (k : Fin 32) : EReal :=
  (∑ d, query x wq b (chan h d) n * lift x wk b (chan h d) n k) * (((Real.sqrt 32)⁻¹ : ℝ) : EReal)

/-- The largest score of a point's row. -/
def peak (x : Points) (wq wk : Weights) (b : Fin 4) (h : Fin 4) (n : Fin 2048) : EReal :=
  Finset.univ.fold max ⊥ fun k => score x wq wk b h n k

/-- A neighbour's weight before the row is normalised. -/
def weight (x : Points) (wq wk : Weights) (b : Fin 4) (h : Fin 4) (n : Fin 2048) (k : Fin 32) : EReal :=
  Ideal.exp (score x wq wk b h n k - peak x wq wk b h n)

/-- The attention row of a point: the softmax of its scores. -/
def attn (x : Points) (wq wk : Weights) (b : Fin 4) (h : Fin 4) (n : Fin 2048) (k : Fin 32) : EReal :=
  Ideal.div (weight x wq wk b h n k) (∑ j, weight x wq wk b h n j)

/-- An attention entry less the mean of its row. -/
def centred (x : Points) (wq wk : Weights) (b : Fin 4) (h : Fin 4) (n : Fin 2048) (k : Fin 32) : EReal :=
  attn x wq wk b h n k - Ideal.div (∑ j, attn x wq wk b h n j) ((32 : ℝ) : EReal)

/-- The standard deviation of a point's attention row. -/
def spread (x : Points) (wq wk : Weights) (b : Fin 4) (h : Fin 4) (n : Fin 2048) : EReal :=
  Ideal.sqrt (Ideal.div (∑ k, centred x wq wk b h n k * centred x wq wk b h n k) ((32 : ℝ) : EReal))

/-- The attention's output for a point: the values of its neighbours, averaged by the row. -/
def mixed (x : Points) (wq wk wv : Weights) (b : Fin 4) (h : Fin 4) (d : Fin 32) (n : Fin 2048) : EReal :=
  ∑ k, attn x wq wk b h n k * lift x wv b (chan h d) n k

end Cert.Spec

end
-- ==== Proof.Consts.lean ====
/- The float constants of the two programs, as the extended reals that their patterns denote. -/
module

public import Idealize.ShloMosaic.PureOps.Ideal

@[expose] public section

noncomputable section

namespace Cert.Consts

open Idealize.ShloMosaic

/-- Minus infinity. -/
theorem neg_inf : Ideal.ofBits .f32 0xFF800000#32 = ⊥ := by
  simp [Ideal.ofBits, Ideal.ieee]

/-- Infinity. -/
theorem inf : Ideal.ofBits .f32 0x7F800000#32 = ⊤ := by
  simp [Ideal.ofBits, Ideal.ieee]

/-- Zero. -/
theorem zero : Ideal.ofBits .f32 0x00000000#32 = 0 := by
  simp [Ideal.ofBits, Ideal.ieee]

/-- One. -/
theorem one : Ideal.ofBits .f32 0x3F800000#32 = ((1 : ℝ) : EReal) := by
  simp [Ideal.ofBits, Ideal.ieee, -EReal.coe_mul, -EReal.coe_one]; norm_num

/-- Thirty-two. -/
theorem thirtyTwo : Ideal.ofBits .f32 0x42000000#32 = ((32 : ℝ) : EReal) := by
  simp [Ideal.ofBits, Ideal.ieee, -EReal.coe_mul]; norm_num

/-- One thirty-second. -/
theorem thirtySecond : Ideal.ofBits .f32 0x3D000000#32 = (((32 : ℝ)⁻¹ : ℝ) : EReal) := by
  simp [Ideal.ofBits, Ideal.ieee, -EReal.coe_mul]; norm_num

/-- Minus two. -/
theorem minusTwo : Ideal.ofBits .f32 0xC0000000#32 = ((-2 : ℝ) : EReal) := by
  simp [Ideal.ofBits, Ideal.ieee, -EReal.coe_mul]; norm_num

end Cert.Consts

end
-- ==== Proof.Knn.lean ====
/- The first launch: what it leaves in its result array is, for every point, the words of its 32 nearest points. -/
module

public import proofs.«01_k».proof.Proof.Spec
public import proofs.«01_k».proof.Proof.Consts
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Knn

open Idealize.ShloMosaic Idealize.ShloMosaic.TcCoe Cert.KernelIdeal Cert.KernelIdeal.Gen
open Idealize.ShloMosaic.Pipeline (Dat Cfg Window)

/-- What holds at the start and is kept by every trip of a counted fold holds at its end. -/
theorem foldl_keeps {σ : Type} : ∀ (n : ℕ) (g : Fin n → σ → σ) (Inv : ℕ → σ → Prop) (s : σ), Inv 0 s →
    (∀ (k : Fin n) (s : σ), Inv k.val s → Inv (k.val + 1) (g k s)) →
    Inv n ((List.finRange n).foldl (fun acc k => g k acc) s)
  | 0, _, _, _, h0, _ => h0
  | n + 1, g, Inv, s, h0, hs => by
    rw [List.finRange_succ, List.foldl_cons, List.foldl_map]
    exact foldl_keeps n (fun k => g k.succ) (fun j => Inv (j + 1)) (g 0 s) (hs 0 s h0) (fun k s h => hs k.succ s h)

/-- A choice by the equality of two small numbers' words is the choice by the numbers' equality. -/
theorem select_word {α : Type} (a b : ℕ) (ha : a < 2 ^ 32) (hb : b < 2 ^ 32) (u v : α) :
    Scalar.select (IntOp.cmpi .eq (BitVec.ofNat 32 a) (BitVec.ofNat 32 b)) u v = if a = b then u else v := by
  by_cases h : a = b
  · subst h; simp [Scalar.select, IntOp.cmpi]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    have hb : (BitVec.ofNat 32 a == BitVec.ofNat 32 b) = false := beq_eq_false_iff_ne.mpr hne
    simp [Scalar.select, IntOp.cmpi, hb]

section Block
variable (x0 : Vec Ideal S1x128x256 .f32) (x1 : Vec Ideal S1x128x2048 .f32)

/-- Row `r` of the block's matrix of nearnesses. -/
def row (r : Fin 256) (n : Fin 2048) : EReal := k0_pay1 x0 x1 (ix2 r n)

/-- The loop's state after all its rounds. -/
def rounds : FVec Ideal S256x2048 .f32 × IVec S256x32 32 :=
  Scf.fold (fun (k : Fin k0_t1_loop.trips) s => (k0_pay5 s.1, k0_pay4 k s.1 s.2)) (k0_pay1 x0 x1, k0_pay2)

/-- The state after `k` rounds: the first `k` places struck out, and their words recorded. -/
def After (k : ℕ) (s : FVec Ideal S256x2048 .f32 × IVec S256x32 32) : Prop :=
  ∀ r : Fin 256, (∀ n : Fin 2048, s.1 (ix2 r n) = Rounds.struck (row x0 x1 r) k n)
    ∧ ∀ i : Fin 32, i.val < k → s.2 (ix2 r i) = BitVec.ofNat 32 (Rounds.place (row x0 x1 r) (i.castLE (by decide))).val

/-- The position that a round finds in a row of the state. -/
theorem found (a : FVec Ideal S256x2048 .f32) (r : Fin 256) (P : Fin 2048 → EReal) (hP : ∀ n, P n ≠ ⊥) (k : Fin 2048)
    (ha : ∀ n, a (ix2 r n) = Rounds.struck P k.val n) :
    (Finset.univ.fold IntOp.minsi 2147483647#32 fun x : Fin 2048 =>
      if a (ix2 r x) = Finset.univ.fold max ⊥ (fun x : Fin 2048 => a (ix2 r x)) then BitVec.ofNat 32 x.val else 2048#32)
      = BitVec.ofNat 32 (Rounds.place P k).val := by
  have hm : Finset.univ.fold max ⊥ (fun x : Fin 2048 => a (ix2 r x)) = P (Rounds.place P k) := by
    refine Rounds.fold_max_eq _ _ (Rounds.place P k) ?_ fun n => ?_
    · rw [ha, Rounds.struck_place]
    · rw [ha]; exact (Rounds.struck_top P hP k n).1
  rw [hm]
  refine Rounds.fold_minsi_eq _ _ ?_ fun n => ?_
  · rw [if_pos]; rw [ha, Rounds.struck_place]
  · by_cases h : a (ix2 r n) = P (Rounds.place P k)
    · refine Or.inr ⟨if_pos h, (Rounds.struck_top P hP k n).2 ?_⟩
      rw [← ha]; exact h
    · exact Or.inl (if_neg h)

/-- One round. -/
theorem step (hx : ∀ r n, row x0 x1 r n ≠ ⊥) (k : Fin k0_t1_loop.trips) (s : FVec Ideal S256x2048 .f32 × IVec S256x32 32)
    (h : After x0 x1 k.val s) : After x0 x1 (k.val + 1) (k0_pay5 s.1, k0_pay4 k s.1 s.2) := by
  intro r
  obtain ⟨h1, h2⟩ := h r
  have hk : k.val < 32 := k.isLt
  have hf := found s.1 r (row x0 x1 r) (hx r) ⟨k.val, by omega⟩ h1
  refine ⟨fun n => ?_, fun i hi => ?_⟩
  · pointwise [k0_pay5, k0_pay3]
    rw [Consts.neg_inf, hf, h1]
    rw [congrFun (Rounds.struck_succ (row x0 x1 r) ⟨k.val, by omega⟩) n]
    rw [select_word _ _ (by omega) (by have := (Rounds.place (row x0 x1 r) ⟨k.val, by omega⟩).isLt; omega)]
    exact if_congr Fin.ext_iff.symm rfl rfl
  · pointwise [k0_pay4, k0_pay3]
    rw [Consts.neg_inf, hf]
    have hv : Scf.iv 0#32 1#32 k.val = BitVec.ofNat 32 k.val := by simp [Scf.iv]
    rw [hv, select_word _ _ (by omega) (by omega)]
    by_cases h : i.val = k.val
    · rw [if_pos h]
      exact congrArg (fun j => BitVec.ofNat 32 (Rounds.place (row x0 x1 r) j).val) (Fin.ext h.symm)
    · rw [if_neg h]
      exact h2 i (by omega)

/-- All 32 rounds: the words of the row's first 32 places. -/
theorem rounds_eq (hx : ∀ r n, row x0 x1 r n ≠ ⊥) (r : Fin 256) (i : Fin 32) :
    (rounds x0 x1).2 (ix2 r i) = BitVec.ofNat 32 (Rounds.place (row x0 x1 r) (i.castLE (by decide))).val := by
  unfold rounds
  rw [Scf.fold_eq]
  refine ((foldl_keeps _ _ (After x0 x1) _ (fun r => ⟨fun n => ?_, fun i hi => absurd hi (Nat.not_lt_zero _)⟩)
    (step x0 x1 hx)) r).2 i i.isLt
  rw [Rounds.struck_zero]; rfl

end Block

variable (V : (c : Dev nD) → (b : Ref sig .tc) → Buf (Elt Ideal) ((c.tc : Thread nD τ).loc b))

/-- What a grid point leaves in the result's block. -/
theorem after_eq (c : Dev nD) (t : Fin cfg0.N) :
    (dat0 V c).after 2 t = k0_pay6 (rounds (iblk0 V c 0 t) (iblk0 V c 1 t)).2 := by
  rw [after0_2]
  unfold outsAt0
  frame_out
  rfl

/-- The points, out of the memory at entry. -/
def points (c : Dev nD) : Cert.Spec.Points := fun b ch n => V c main_arg0 (ix3 b ch n)

/-- The batch of a grid point. -/
def batch (t : Fin cfg0.N) : Fin 4 := ⟨t.val / 8, by have : cfg0.N = 32 := by decide +kernel
                                                     omega⟩

/-- The point that row `r` of a grid point's block is about. -/
def point (t : Fin cfg0.N) (r : Fin 256) : Fin 2048 := ⟨t.val % 8 * 256 + r.val, by omega⟩

theorem index0 : ∀ t : Fin cfg0.N, win0_0.index t = ![t.val / 8, 0, t.val % 8] := by decide +kernel
theorem index1 : ∀ t : Fin cfg0.N, win0_1.index t = ![t.val / 8, 0, 0] := by decide +kernel
theorem index2 : ∀ t : Fin cfg0.N, win0_2.index t = ![t.val / 8, t.val % 8, 0] := by decide +kernel

theorem row_eq (c : Dev nD) (t : Fin cfg0.N) (r : Fin 256) (n : Fin 2048) :
    row (iblk0 V c 0 t) (iblk0 V c 1 t) r n = Cert.Spec.nearness (points V c) (batch t) (point t r) n := by
  have e0 : ∀ x : Fin 128, iblk0 V c 0 t (ix3 0 x r) = points V c (batch t) x (point t r) := fun x => by
    unfold points batch point
    blk_ext [iblk0, index0 t]
  have e1 : ∀ x : Fin 128, iblk0 V c 1 t (ix3 0 x n) = points V c (batch t) x n := fun x => by
    unfold points batch
    blk_ext [iblk0, index1 t]
  unfold row Spec.nearness
  pointwise [k0_pay1]
  simp only [e0, e1]

/-- What the first launch leaves: the words of each point's neighbours. -/
theorem arrAt_eq (c : Dev nD) (hx : ∀ b n m, Cert.Spec.nearness (points V c) b n m ≠ ⊥) :
    (dat0 V c).arrAt 2 cfg0.N = fun i => BitVec.ofNat 32 (Cert.Spec.near (points V c) (i 0) (i 1) (i 2)).val := by
  refine (dat0 V c).arrAt_eq_of_covers 2 _ (by decide +kernel) fun t hf y => ?_
  blk_simp
  rw [after_eq]
  idx_vars y
  have he : ((View.whole main_v0).slice (win0_2.rect t)).emb (ix3 y0 y1 y2) = ix3 (batch t) (point t y1) y2 := by
    unfold batch point
    blk_ext [index2 t]
  have hr : row (iblk0 V c 0 t) (iblk0 V c 1 t) y1 = Cert.Spec.nearness (points V c) (batch t) (point t y1) :=
    funext (row_eq V c t y1)
  have hp : k0_pay6 (rounds (iblk0 V c 0 t) (iblk0 V c 1 t)).2 (ix3 y0 y1 y2) = (rounds (iblk0 V c 0 t) (iblk0 V c 1 t)).2 (ix2 y1 y2) := by
    pointwise [k0_pay6]
  rw [he, hp, rounds_eq _ _ (fun r n => by rw [row_eq]; exact hx _ _ _) y1 y2, hr]
  rfl

end Cert.KernelIdeal.Knn

end
-- ==== Proof.Finite.lean ====
/- With finite points and weights every score is a real, and so the sum that normalises an attention row isn't zero. -/
module

public import proofs.«01_k».proof.Proof.Spec
public import proofs.«01_k».proof.Proof.Consts

@[expose] public section

noncomputable section

namespace Cert.Spec

open Idealize.ShloMosaic

/-- An extended real that is a real. -/
def Finite (a : EReal) : Prop := ∃ r : ℝ, a = (r : EReal)

namespace Finite

theorem coe (r : ℝ) : Finite (r : EReal) := ⟨r, rfl⟩
theorem zero : Finite 0 := ⟨0, EReal.coe_zero.symm⟩
theorem add {a b : EReal} : Finite a → Finite b → Finite (a + b)
  | ⟨r, hr⟩, ⟨s, hs⟩ => ⟨r + s, by rw [hr, hs, EReal.coe_add]⟩
theorem sub {a b : EReal} : Finite a → Finite b → Finite (a - b)
  | ⟨r, hr⟩, ⟨s, hs⟩ => ⟨r - s, by rw [hr, hs, EReal.coe_sub]⟩
theorem mul {a b : EReal} : Finite a → Finite b → Finite (a * b)
  | ⟨r, hr⟩, ⟨s, hs⟩ => ⟨r * s, by rw [hr, hs, EReal.coe_mul]⟩
theorem sum {ι : Type} (s : Finset ι) (f : ι → EReal) (h : ∀ i, Finite (f i)) : Finite (∑ i ∈ s, f i) :=
  Finset.sum_induction f Finite (fun _ _ => add) zero fun i _ => h i
theorem ne_bot {a : EReal} : Finite a → a ≠ ⊥
  | ⟨r, hr⟩ => hr ▸ EReal.coe_ne_bot r

end Finite

variable {x : Points} {wq wk : Weights}

/-- Among finite points every nearness is a real. -/
theorem nearness_finite (hx : ∀ b c n, Finite (x b c n)) (b : Fin 4) (n m : Fin 2048) : Finite (nearness x b n m) := by
  unfold nearness
  rw [Consts.minusTwo]
  exact ((Finite.zero.sub (.sum _ _ fun c => (hx b c n).mul (hx b c n))).sub
    ((Finite.coe _).mul (.sum _ _ fun c => (hx b c n).mul (hx b c m)))).sub (.sum _ _ fun c => (hx b c m).mul (hx b c m))

theorem lift_finite (hx : ∀ b c n, Finite (x b c n)) {w : Weights} (hw : ∀ o c, Finite (w o c)) (b : Fin 4) (o : Fin 128)
    (n : Fin 2048) (k : Fin 32) : Finite (lift x w b o n k) :=
  .sum _ _ fun c => (hw o c).mul ((hx _ _ _).sub (hx _ _ _))

theorem score_finite (hx : ∀ b c n, Finite (x b c n)) (hq : ∀ o c, Finite (wq o c)) (hk : ∀ o c, Finite (wk o c))
    (b : Fin 4) (h : Fin 4) (n : Fin 2048) (k : Fin 32) : Finite (score x wq wk b h n k) :=
  (Finite.sum _ _ fun d => (Finite.sum _ _ fun c => (hq _ _).mul (hx _ _ _)).mul (lift_finite hx hk _ _ _ _)).mul (.coe _)

/-- A row's sum of weights isn't zero: the largest score's weight is one, and none is negative. -/
theorem total_ne_zero (hx : ∀ b c n, Finite (x b c n)) (hq : ∀ o c, Finite (wq o c)) (hk : ∀ o c, Finite (wk o c))
    (b : Fin 4) (h : Fin 4) (n : Fin 2048) : ∑ k, weight x wq wk b h n k ≠ 0 := by
  have hf := score_finite hx hq hk b h n
  obtain ⟨p, -, hp⟩ := Finset.exists_max_image Finset.univ (fun k => score x wq wk b h n k) ⟨(0 : Fin 32), Finset.mem_univ _⟩
  have hpeak : peak x wq wk b h n = score x wq wk b h n p :=
    Rounds.fold_max_eq _ _ p rfl fun k => hp k (Finset.mem_univ k)
  have hpos : ∀ k, 0 ≤ weight x wq wk b h n k := fun k => by
    unfold weight
    rw [hpeak]
    obtain ⟨r, hr⟩ := (hf k).sub (hf p)
    rw [hr, Ideal.exp_coe]
    exact EReal.coe_nonneg.2 (Real.exp_pos r).le
  have hone : weight x wq wk b h n p = 1 := by
    unfold weight
    rw [hpeak]
    obtain ⟨r, hr⟩ := hf p
    rw [hr, ← EReal.coe_sub, sub_self, Ideal.exp_coe, Real.exp_zero, EReal.coe_one]
  intro h0
  have := (Finset.sum_eq_zero_iff_of_nonneg fun k _ => hpos k).1 h0 p (Finset.mem_univ p)
  rw [hone] at this
  exact one_ne_zero this

/-- Two to a multiple of the reciprocal logarithm of two is the exponential. -/
theorem exp2_scaled (a : EReal) : Ideal.exp2 (a * (((Real.log 2)⁻¹ : ℝ) : EReal)) = Ideal.exp a := by
  have hl : 0 < (Real.log 2)⁻¹ := inv_pos.2 (Real.log_pos (by norm_num))
  induction a with
  | bot => rw [EReal.bot_mul_coe_of_pos hl]; rfl
  | top => rw [EReal.top_mul_coe_of_pos hl]; rfl
  | coe r =>
    rw [← EReal.coe_mul, Ideal.exp2_coe, Ideal.exp_coe]
    congr 1
    show (2 : ℝ) ^ (r * (Real.log 2)⁻¹) = Real.exp r
    rw [Real.rpow_def_of_pos (by norm_num), mul_left_comm, mul_inv_cancel₀ (Real.log_pos (by norm_num)).ne', mul_one]

/-- Times the reciprocal is the quotient, by anything but zero. -/
theorem mul_div_one (a s : EReal) (hs : s ≠ 0) : a * Ideal.div 1 s = Ideal.div a s := by
  simp [Ideal.div, hs]

/-- One thirty-second of a number is its quotient by thirty-two. -/
theorem mul_thirtySecond (a : EReal) : a * (((32 : ℝ)⁻¹ : ℝ) : EReal) = Ideal.div a ((32 : ℝ) : EReal) := by
  rw [Ideal.div_coe (by norm_num), one_div]

end Cert.Spec

end
-- ==== Proof.Attn.lean ====
/- The second launch: what one grid point leaves in its two result blocks, entry by entry: the attention over the 32 neighbours
   whose words the third operand holds, and the spread of each attention row. -/
module

public import proofs.«01_k».proof.Proof.Knn
public import proofs.«01_k».proof.Proof.Finite

@[expose] public section

set_option maxRecDepth 16384

noncomputable section

namespace Cert.KernelIdeal.Attn

open Idealize.ShloMosaic Idealize.ShloMosaic.TcCoe Cert.KernelIdeal Cert.KernelIdeal.Gen
open Idealize.ShloMosaic.Pipeline (Dat Cfg Window)

/-- Column `q` of the `k`-th of 32 tiles laid side by side. -/
def col (k : Fin 32) (q : Fin 128) : Fin 4096 := ⟨k.val * 128 + q.val, by omega⟩

/-- 32 tiles laid side by side. -/
def tiled (w : Fin 32 → FVec Ideal S128x128 .f32) : FVec Ideal S128x4096 .f32 :=
  concatenate S128x4096 1 (List.ofFn fun j : Fin 32 => (⟨S128x128, w j⟩ : (s : Shape) × (s.Idx → Ideal .f32)))
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1

theorem tiled_list (w : Fin 32 → FVec Ideal S128x128 .f32) :
    tiled w = concatenate S128x4096 1 [⟨S128x128, w 0⟩, ⟨S128x128, w 1⟩, ⟨S128x128, w 2⟩, ⟨S128x128, w 3⟩, ⟨S128x128, w 4⟩, ⟨S128x128, w 5⟩, ⟨S128x128, w 6⟩, ⟨S128x128, w 7⟩, ⟨S128x128, w 8⟩, ⟨S128x128, w 9⟩, ⟨S128x128, w 10⟩, ⟨S128x128, w 11⟩, ⟨S128x128, w 12⟩, ⟨S128x128, w 13⟩, ⟨S128x128, w 14⟩, ⟨S128x128, w 15⟩, ⟨S128x128, w 16⟩, ⟨S128x128, w 17⟩, ⟨S128x128, w 18⟩, ⟨S128x128, w 19⟩, ⟨S128x128, w 20⟩, ⟨S128x128, w 21⟩, ⟨S128x128, w 22⟩, ⟨S128x128, w 23⟩, ⟨S128x128, w 24⟩, ⟨S128x128, w 25⟩, ⟨S128x128, w 26⟩, ⟨S128x128, w 27⟩, ⟨S128x128, w 28⟩, ⟨S128x128, w 29⟩, ⟨S128x128, w 30⟩, ⟨S128x128, w 31⟩]
      concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1 := rfl

theorem tiled_at (w : Fin 32 → FVec Ideal S128x128 .f32) (c : Fin 128) (k : Fin 32) (q : Fin 128) :
    tiled w (ix2 c (col k q)) = w k (ix2 c q) := by
  unfold tiled
  refine concatenate_ofFn_apply (t := S128x4096) (s₁ := S128x128) 1 w _ rfl 128 rfl (ix2 c (col k q)) k ?_ (ix2 c q) ?_ ?_
  · show (k.val * 128 + q.val) / 128 = k.val
    omega
  · show q.val = (k.val * 128 + q.val) % 128
    omega
  · intro b hb
    fin_cases b
    · rfl
    · exact absurd rfl hb

theorem slices (j : Fin 32) : S32x128.Slices ![j.val, 0] S1x128 := by
  revert j; decide

/-- Where the `j`-th neighbour of each column sits: one mark in each column. -/
def marks (v5 : IVec S32x128 32) (j : Fin 32) : IVec S2048x128 1 :=
  cmpi .eq (iota .tc S2048x128 32 [0] iota_S2048x128_d0_w32)
    (broadcastTo S2048x128 (extractStridedSlice S1x128 ![j.val, 0] v5 (slices j)) broadcasts_S1x128_S2048x128)

/-- The `j`-th neighbour of each column, taken out of all points by a product with its marks. -/
def taken (v3 : FVec Ideal S128x2048 .f32) (v5 : IVec S32x128 32) (j : Fin 32) : FVec Ideal S128x128 .f32 :=
  matmul dot_S128x2048_S2048x128_S128x128_1_0_0_1_n_n (some .fp32) v3
    (select (marks v5 j) (broadcast S2048x128 (Scalar.ofBits .f32 0x3F800000#32)) (broadcast S2048x128 (Scalar.ofBits .f32 0x00000000#32)))
    (constant S128x128 .f32 0x00000000#32)

/-- The product picks the column that the word names. -/
theorem taken_at (v3 : FVec Ideal S128x2048 .f32) (v5 : IVec S32x128 32) (j : Fin 32) (c q : Fin 128) (p : Fin 2048)
    (hp : v5 (ix2 j q) = BitVec.ofNat 32 p.val) : taken v3 v5 j (ix2 c q) = v3 (ix2 c p) := by
  pointwise [taken, marks]
  rw [hp, Finset.sum_eq_single p]
  · rw [Knn.select_word _ _ (by omega) (by omega), if_pos rfl]
  · intro x _ hx
    rw [Knn.select_word _ _ (by omega) (by omega), if_neg fun e => hx (Fin.ext e)]
  · exact fun h => absurd (Finset.mem_univ p) h

section Block
variable (x0 : Vec Ideal S1x128x128 .f32) (x1 : Vec Ideal S1x128x2048 .f32) (x2 : Vec Ideal S1x32x128 .i32)
  (x3 x4 x5 : Vec Ideal S128x128 .f32)

/-- The offsets are the neighbours less the points, tile by tile. -/
theorem offsets_eq : k1_pay93 x0 x1 x2 x3 x4 x5
    = subf (tiled (taken (k1_pay59 x0 x1 x2 x3 x4 x5) (k1_pay60 x0 x1 x2 x3 x4 x5))) (tiled fun _ => k1_pay58 x0 x1 x2 x3 x4 x5) := by
  rw [tiled_list, tiled_list]
  unfold k1_pay93 k1_pay44
  rfl

/-- The scores, from the queries' tile and the keys of all tiles. -/
def scores (a : FVec Ideal S128x128 .f32) (b : FVec Ideal S128x4096 .f32) : FVec Ideal S4x128x32 .f32 :=
  mulf (transpose S4x128x32 [0, 2, 1] (shapeCast S4x32x128 (multiReduction .add [1] S4x4096
    (shapeCast S4x32x4096 (mulf (tiled fun _ => a) b) shapeCasts_S128x4096_S4x32x4096) 0x00000000#32
    reduces_S4x32x4096_S4x4096 (.inl rfl) rfl) shapeCasts_S4x4096_S4x32x128) transposes_S4x32x128_p0_2_1_S4x128x32)
    (broadcast S4x128x32 (Named.named κ "inv_sqrt_depth" 0x3E3504F3#32))

/-- The exponentials of the scores less their row's largest. -/
def powers (s : FVec Ideal S4x128x32 .f32) : FVec Ideal S4x128x32 .f32 :=
  exp2 (mulf (subf s (broadcastTo S4x128x32 (shapeCast S4x128x1 (multiReduction .maximumf [2] S4x128 s 0xFF800000#32
    reduces_S4x128x32_S4x128 (.inl rfl) rfl) shapeCasts_S4x128_S4x128x1) broadcasts_S4x128x1_S4x128x32))
    (broadcast S4x128x32 (Named.named κ "log2e" 0x3FB8AA3B#32)))

/-- Each row divided by its sum. -/
def normed (p : FVec Ideal S4x128x32 .f32) : FVec Ideal S4x32x128 .f32 :=
  transpose S4x32x128 [0, 2, 1] (mulf p (broadcastTo S4x128x32 (reciprocal true (shapeCast S4x128x1
    (multiReduction .add [2] S4x128 p 0x00000000#32 reduces_S4x128x32_S4x128 (.inl rfl) rfl) shapeCasts_S4x128_S4x128x1))
    broadcasts_S4x128x1_S4x128x32)) transposes_S4x128x32_p0_2_1_S4x32x128

/-- The product of a matrix of weights with all tiles. -/
def lifted (w : FVec Ideal S128x128 .f32) (d : FVec Ideal S128x4096 .f32) : FVec Ideal S128x4096 .f32 :=
  matmul dot_S128x128_S128x4096_S128x4096_1_0_0_1_n_n none w d (constant S128x4096 .f32 0x00000000#32)

/-- The product of a matrix of weights with one tile. -/
def asked (w d : FVec Ideal S128x128 .f32) : FVec Ideal S128x128 .f32 :=
  matmul dot_S128x128_S128x128_S128x128_1_0_0_1_n_n none w d (constant S128x128 .f32 0x00000000#32)

theorem attn_eq : k1_pay94 x0 x1 x2 x3 x4 x5
    = normed (powers (scores (asked (View.ld x3 r1_3) (k1_pay58 x0 x1 x2 x3 x4 x5)) (lifted (View.ld x4 r1_3) (k1_pay93 x0 x1 x2 x3 x4 x5)))) := by
  unfold scores
  rw [tiled_list]
  rfl

theorem values_eq : k1_pay95 x0 x1 x2 x3 x4 x5 = lifted (View.ld x5 r1_3) (k1_pay93 x0 x1 x2 x3 x4 x5) := rfl

theorem lifted_at (w : FVec Ideal S128x128 .f32) (d : FVec Ideal S128x4096 .f32) (o : Fin 128) (p : Fin 4096) :
    lifted w d (ix2 o p) = ∑ c, w (ix2 o c) * d (ix2 c p) := by
  pointwise [lifted]
theorem asked_at (w d : FVec Ideal S128x128 .f32) (o q : Fin 128) :
    asked w d (ix2 o q) = ∑ c, w (ix2 o c) * d (ix2 c q) := by
  pointwise [asked]

/-- The scale's constant, which the program names. -/
theorem scale : Named.named (F := Ideal) κ "inv_sqrt_depth" (φ := .f32) 0x3E3504F3#32 = (((Real.sqrt 32)⁻¹ : ℝ) : EReal) :=
  IdealRules.named_const.ideal_named_scalar _ _ _ _ rfl

/-- The change of base's constant, which the program names. -/
theorem base : Named.named (F := Ideal) κ "log2e" (φ := .f32) 0x3FB8AA3B#32 = (((Real.log 2)⁻¹ : ℝ) : EReal) :=
  IdealRules.named_const.ideal_named_scalar _ _ _ _ rfl

theorem scores_at (a : FVec Ideal S128x128 .f32) (b : FVec Ideal S128x4096 .f32) (h : Fin 4) (k : Fin 32) (q : Fin 128) :
    scores a b (ix3 h q k) = (∑ d, a (ix2 (Spec.chan h d) q) * b (ix2 (Spec.chan h d) (col k q))) * (((Real.sqrt 32)⁻¹ : ℝ) : EReal) := by
  pointwise [scores]
  rw [scale]
  exact congrArg (· * _) (Finset.sum_congr rfl fun d _ => congrArg (· * _) (tiled_at (fun _ => a) (Spec.chan h d) k q))

theorem powers_at (s : FVec Ideal S4x128x32 .f32) (h : Fin 4) (k : Fin 32) (q : Fin 128) :
    powers s (ix3 h q k) = Ideal.exp (s (ix3 h q k) - Finset.univ.fold max ⊥ fun j => s (ix3 h q j)) := by
  pointwise [powers]
  rw [base, Consts.neg_inf]
  exact Spec.exp2_scaled _

theorem normed_at (p : FVec Ideal S4x128x32 .f32) (h : Fin 4) (k : Fin 32) (q : Fin 128) :
    normed p (ix3 h k q) = p (ix3 h q k) * Ideal.div 1 (∑ j, p (ix3 h q j)) := by
  pointwise [normed]

/-- The deviations of the attention rows. -/
def deviations (a : FVec Ideal S4x32x128 .f32) : FVec Ideal S4x32x128 .f32 :=
  subf a (broadcastTo S4x32x128 (mulf (shapeCast S4x1x128 (multiReduction .add [1] S4x128 a 0x00000000#32 reduces_S4x32x128_S4x128
    (.inl rfl) rfl) shapeCasts_S4x128_S4x1x128) (broadcast S4x1x128 (Scalar.ofBits .f32 0x3D000000#32))) broadcasts_S4x1x128_S4x32x128)

/-- The sums of the squares of the deviations. -/
def squares (v : FVec Ideal S4x32x128 .f32) : FVec Ideal S4x128 .f32 :=
  multiReduction .add [1] S4x128 (mulf v v) 0x00000000#32 reduces_S4x32x128_S4x128 (.inl rfl) rfl

theorem deviations_at (a : FVec Ideal S4x32x128 .f32) (h : Fin 4) (k : Fin 32) (q : Fin 128) :
    deviations a (ix3 h k q) = a (ix3 h k q) - Ideal.div (∑ j, a (ix3 h j q)) ((32 : ℝ) : EReal) := by
  pointwise [deviations]
  rw [Consts.thirtySecond, Spec.mul_thirtySecond]

theorem squares_at (v : FVec Ideal S4x32x128 .f32) (h : Fin 4) (q : Fin 128) :
    squares v (ix2 h q) = ∑ k, v (ix3 h k q) * v (ix3 h k q) := by
  pointwise [squares]

/-- The standard deviations of the attention rows. -/
def spreads (a : FVec Ideal S4x32x128 .f32) : FVec Ideal S1x4x128 .f32 :=
  k1_pay47 (squares (deviations a)) (Scalar.ofBits .f32 0x3D000000#32)

theorem spreads_at (a : FVec Ideal S4x32x128 .f32) (h : Fin 4) (q : Fin 128) :
    spreads a (ix3 0 h q) = Ideal.sqrt (Ideal.div (∑ k, deviations a (ix3 h k q) * deviations a (ix3 h k q)) ((32 : ℝ) : EReal)) := by
  pointwise [spreads, k1_pay47]
  rw [squares_at, Consts.thirtySecond, Spec.mul_thirtySecond]

/-- The running sum over the 32 neighbours. -/
def summed (a : FVec Ideal S4x32x128 .f32) (d : FVec Ideal S128x4096 .f32) (w : FVec Ideal S128x128 .f32) : FVec Ideal S1x128x128 .f32 :=
  k1_pay1 (k1_pay56 a (lifted w d) (k1_pay54 a (lifted w d) (k1_pay51 a (lifted w d) (k1_pay49 d a w) (k1_pay50 a)) (k1_pay52 a)
    (k1_pay53 (lifted w d))) (k1_pay55 a)) (k1_pay57 a (lifted w d))

theorem sum32 (f : Fin 32 → EReal) : ∑ k, f k = f 0 + f 1 + f 2 + f 3 + f 4 + f 5 + f 6 + f 7 + f 8 + f 9 + f 10 + f 11 + f 12
    + f 13 + f 14 + f 15 + f 16 + f 17 + f 18 + f 19 + f 20 + f 21 + f 22 + f 23 + f 24 + f 25 + f 26 + f 27 + f 28 + f 29 + f 30
    + f 31 := by
  simp only [Fin.sum_univ_castSucc, Fin.sum_univ_zero, zero_add]
  rfl

theorem summed_at (a : FVec Ideal S4x32x128 .f32) (f : FVec Ideal S128x4096 .f32) (w : FVec Ideal S128x128 .f32) (h : Fin 4) (d : Fin 32) (q : Fin 128) :
    summed a f w (ix3 0 (Spec.chan h d) q) = ∑ k, a (ix3 h k q) * lifted w f (ix2 (Spec.chan h d) (col k q)) := by
  have e : k1_pay48 f w = lifted w f := rfl
  unfold Spec.chan summed
  pointwise [k1_pay1, k1_pay56, k1_pay54, k1_pay51, k1_pay50, k1_pay52, k1_pay53, k1_pay55, k1_pay57, k1_pay49]
  rw [e]
  generalize lifted w f = v
  rw [sum32, show col 0 q = ⟨q.val, by omega⟩ from Fin.ext (show 0 * 128 + q.val = q.val by omega)]
  rfl

/-- A grid point's block, as the mathematics reads it: the points, their neighbours' words, and the weights. -/
structure Reads (X : Spec.Points) (wq wk wv : Spec.Weights) (b : Fin 4) (pt : Fin 128 → Fin 2048) : Prop where
  here : ∀ c q, k1_pay58 x0 x1 x2 x3 x4 x5 (ix2 c q) = X b c (pt q)
  all : ∀ c n, k1_pay59 x0 x1 x2 x3 x4 x5 (ix2 c n) = X b c n
  word : ∀ k q, k1_pay60 x0 x1 x2 x3 x4 x5 (ix2 k q) = BitVec.ofNat 32 (Spec.near X b (pt q) k).val
  query : ∀ o c, View.ld x3 r1_3 (ix2 o c) = wq o c
  key : ∀ o c, View.ld x4 r1_3 (ix2 o c) = wk o c
  value : ∀ o c, View.ld x5 r1_3 (ix2 o c) = wv o c

variable {x0 x1 x2 x3 x4 x5} {X : Spec.Points} {wq wk wv : Spec.Weights} {b : Fin 4} {pt : Fin 128 → Fin 2048}
  (hr : Reads x0 x1 x2 x3 x4 x5 X wq wk wv b pt)
include hr

theorem offset_at (c : Fin 128) (k : Fin 32) (q : Fin 128) :
    k1_pay93 x0 x1 x2 x3 x4 x5 (ix2 c (col k q)) = Spec.offset X b c (pt q) k := by
  rw [offsets_eq]
  show tiled _ (ix2 c (col k q)) - tiled _ (ix2 c (col k q)) = _
  rw [tiled_at, tiled_at, taken_at _ _ _ _ _ _ (hr.word k q), hr.all, hr.here]
  rfl

theorem lift_at (w : FVec Ideal S128x128 .f32) (W : Spec.Weights) (hw : ∀ o c, w (ix2 o c) = W o c) (o : Fin 128) (k : Fin 32) (q : Fin 128) :
    lifted w (k1_pay93 x0 x1 x2 x3 x4 x5) (ix2 o (col k q)) = Spec.lift X W b o (pt q) k := by
  rw [lifted_at]
  unfold Spec.lift
  simp only [hw, offset_at hr]

theorem attn_at (hx : ∀ b c n, Spec.Finite (X b c n)) (hq : ∀ o c, Spec.Finite (wq o c)) (hk : ∀ o c, Spec.Finite (wk o c))
    (h : Fin 4) (k : Fin 32) (q : Fin 128) :
    k1_pay94 x0 x1 x2 x3 x4 x5 (ix3 h k q) = Spec.attn X wq wk b h (pt q) k := by
  rw [attn_eq]
  have hs : ∀ j, scores (asked (View.ld x3 r1_3) (k1_pay58 x0 x1 x2 x3 x4 x5)) (lifted (View.ld x4 r1_3) (k1_pay93 x0 x1 x2 x3 x4 x5)) (ix3 h q j)
      = Spec.score X wq wk b h (pt q) j := fun j => by
    rw [scores_at]
    unfold Spec.score Spec.query
    simp only [asked_at, lift_at hr _ _ hr.key, hr.here, hr.query]
  have hp : ∀ j, powers (scores (asked (View.ld x3 r1_3) (k1_pay58 x0 x1 x2 x3 x4 x5)) (lifted (View.ld x4 r1_3) (k1_pay93 x0 x1 x2 x3 x4 x5))) (ix3 h q j)
      = Spec.weight X wq wk b h (pt q) j := fun j => by
    rw [powers_at]
    simp only [hs]
    rfl
  rw [normed_at]
  simp only [hp]
  exact Spec.mul_div_one _ _ (Spec.total_ne_zero hx hq hk b h (pt q))

theorem spread_at (hx : ∀ b c n, Spec.Finite (X b c n)) (hq : ∀ o c, Spec.Finite (wq o c)) (hk : ∀ o c, Spec.Finite (wk o c))
    (h : Fin 4) (q : Fin 128) :
    spreads (k1_pay94 x0 x1 x2 x3 x4 x5) (ix3 0 h q) = Spec.spread X wq wk b h (pt q) := by
  rw [spreads_at]
  unfold Spec.spread Spec.centred
  simp only [deviations_at, attn_at hr hx hq hk]

theorem mixed_at (hx : ∀ b c n, Spec.Finite (X b c n)) (hq : ∀ o c, Spec.Finite (wq o c)) (hk : ∀ o c, Spec.Finite (wk o c))
    (h : Fin 4) (d : Fin 32) (q : Fin 128) :
    summed (k1_pay94 x0 x1 x2 x3 x4 x5) (k1_pay93 x0 x1 x2 x3 x4 x5) (View.ld x5 r1_3) (ix3 0 (Spec.chan h d) q)
      = Spec.mixed X wq wk wv b h d (pt q) := by
  rw [summed_at]
  unfold Spec.mixed
  simp only [attn_at hr hx hq hk, lift_at hr _ _ hr.value]

end Block

variable (V : (c : Dev nD) → (b : Ref sig .tc) → Buf (Elt Ideal) ((c.tc : Thread nD τ).loc b))

theorem ld_weights (x : Vec Ideal S128x128 .f32) : View.ld x r1_3 = x := View.ld_unit_lit _ x (by decide)

theorem after6_eq (c : Dev nD) (t : Fin cfg1.N) : (dat1 V c).after 6 t
    = summed (k1_pay94 (iblk1 V c 0 t) (iblk1 V c 1 t) (iblk1 V c 2 t) (iblk1 V c 3 t) (iblk1 V c 4 t) (iblk1 V c 5 t))
        (k1_pay93 (iblk1 V c 0 t) (iblk1 V c 1 t) (iblk1 V c 2 t) (iblk1 V c 3 t) (iblk1 V c 4 t) (iblk1 V c 5 t))
        (View.ld (iblk1 V c 5 t) r1_3) := by
  rw [after1_6]
  frame_out
  unfold summed
  rw [values_eq]
  simp only [ld_weights]

theorem out7_eq (x0 : Vec Ideal S1x128x128 .f32) (x1 : Vec Ideal S1x128x2048 .f32) (x2 : Vec Ideal S1x32x128 .i32)
    (x3 x4 x5 : Vec Ideal S128x128 .f32) :
    out1_7 x0 x1 x2 x3 x4 x5 = View.canon [⟨r1_4, spreads (k1_pay94 x0 x1 x2 x3 x4 x5)⟩] := rfl

theorem after7_eq (c : Dev nD) (t : Fin cfg1.N) : (dat1 V c).after 7 t
    = spreads (k1_pay94 (iblk1 V c 0 t) (iblk1 V c 1 t) (iblk1 V c 2 t) (iblk1 V c 3 t) (iblk1 V c 4 t) (iblk1 V c 5 t)) := by
  rw [after1_7, out7_eq]
  frame_out

/-- The batch of a grid point. -/
def batch (t : Fin cfg1.N) : Fin 4 := ⟨t.val / 16, by have : cfg1.N = 64 := by decide +kernel
                                                      omega⟩

/-- The point that column `q` of a grid point's block is about. -/
def point (t : Fin cfg1.N) (q : Fin 128) : Fin 2048 := ⟨t.val % 16 * 128 + q.val, by omega⟩

theorem index0 : ∀ t : Fin cfg1.N, win1_0.index t = ![t.val / 16, 0, t.val % 16] := by decide +kernel
theorem index1 : ∀ t : Fin cfg1.N, win1_1.index t = ![t.val / 16, 0, 0] := by decide +kernel
theorem index2 : ∀ t : Fin cfg1.N, win1_2.index t = ![t.val / 16, 0, t.val % 16] := by decide +kernel
theorem index3 : ∀ t : Fin cfg1.N, win1_3.index t = ![0, 0] := by decide +kernel
theorem index4 : ∀ t : Fin cfg1.N, win1_4.index t = ![0, 0] := by decide +kernel
theorem index5 : ∀ t : Fin cfg1.N, win1_5.index t = ![0, 0] := by decide +kernel
theorem index6 : ∀ t : Fin cfg1.N, win1_6.index t = ![t.val / 16, 0, t.val % 16] := by decide +kernel
theorem index7 : ∀ t : Fin cfg1.N, win1_7.index t = ![t.val / 16, 0, t.val % 16] := by decide +kernel

/-- The weights of the queries, the keys and the values, out of the memory at entry. -/
def wq (c : Dev nD) : Spec.Weights := fun o i => V c main_arg1 (ix2 o i)
def wk (c : Dev nD) : Spec.Weights := fun o i => V c main_arg2 (ix2 o i)
def wv (c : Dev nD) : Spec.Weights := fun o i => V c main_arg3 (ix2 o i)

theorem reads (c : Dev nD)
    (hw : ∀ b k n, V c main_v1 (ix3 b k n) = BitVec.ofNat 32 (Spec.near (Knn.points V c) b n k).val) (t : Fin cfg1.N) :
    Reads (iblk1 V c 0 t) (iblk1 V c 1 t) (iblk1 V c 2 t) (iblk1 V c 3 t) (iblk1 V c 4 t) (iblk1 V c 5 t)
      (Knn.points V c) (wq V c) (wk V c) (wv V c) (batch t) (point t) where
  here ch q := by
    have e : iblk1 V c 0 t (ix3 0 ch q) = Knn.points V c (batch t) ch (point t q) := by
      unfold Knn.points batch point
      blk_ext [iblk1, index0 t]
    rw [← e]
    pointwise [k1_pay58, k1_pay2]
  all ch n := by
    have e : iblk1 V c 1 t (ix3 0 ch n) = Knn.points V c (batch t) ch n := by
      unfold Knn.points batch
      blk_ext [iblk1, index1 t]
    rw [← e]
    pointwise [k1_pay59, k1_pay3]
  word k q := by
    have e : iblk1 V c 2 t (ix3 0 k q) = V c main_v1 (ix3 (batch t) k (point t q)) := by
      unfold batch point
      blk_ext [iblk1, index2 t]
    rw [← hw, ← e]
    pointwise [k1_pay60, k1_pay4]
  query o i := by
    rw [ld_weights]
    unfold wq
    blk_ext [iblk1, index3 t]
  key o i := by
    rw [ld_weights]
    unfold wk
    blk_ext [iblk1, index4 t]
  value o i := by
    rw [ld_weights]
    unfold wv
    blk_ext [iblk1, index5 t]

/-- The head and the place within it of a channel. -/
def head (i : Fin 128) : Fin 4 := ⟨i.val / 32, by omega⟩
def place (i : Fin 128) : Fin 32 := ⟨i.val % 32, by omega⟩

theorem chan_eq (i : Fin 128) : Spec.chan (head i) (place i) = i :=
  Fin.ext (show i.val / 32 * 32 + i.val % 32 = i.val by omega)

/-- What the second launch leaves in its first result: the attention's output for each point. -/
theorem mixed_arr (c : Dev nD)
    (hw : ∀ b k n, V c main_v1 (ix3 b k n) = BitVec.ofNat 32 (Spec.near (Knn.points V c) b n k).val)
    (hx : ∀ b ch n, Spec.Finite (Knn.points V c b ch n)) (hq : ∀ o i, Spec.Finite (wq V c o i)) (hk : ∀ o i, Spec.Finite (wk V c o i)) :
    (dat1 V c).arrAt 6 cfg1.N = fun i => Spec.mixed (Knn.points V c) (wq V c) (wk V c) (wv V c) (i 0) (head (i 1)) (place (i 1)) (i 2) := by
  refine (dat1 V c).arrAt_eq_of_covers 6 _ (by decide +kernel) fun t hf y => ?_
  blk_simp
  rw [after6_eq]
  idx_vars y
  have he : ((View.whole main_v2_0).slice (win1_6.rect t)).emb (ix3 y0 y1 y2) = ix3 (batch t) y1 (point t y2) := by
    unfold batch point
    blk_ext [index6 t]
  have h0 : y0 = 0 := Subsingleton.elim _ _
  have hm := mixed_at (reads V c hw t) hx hq hk (head y1) (place y1) y2
  rw [chan_eq] at hm
  rw [he, h0]
  exact hm

/-- What it leaves in its second: the spread of each point's attention rows. -/
theorem spread_arr (c : Dev nD)
    (hw : ∀ b k n, V c main_v1 (ix3 b k n) = BitVec.ofNat 32 (Spec.near (Knn.points V c) b n k).val)
    (hx : ∀ b ch n, Spec.Finite (Knn.points V c b ch n)) (hq : ∀ o i, Spec.Finite (wq V c o i)) (hk : ∀ o i, Spec.Finite (wk V c o i)) :
    (dat1 V c).arrAt 7 cfg1.N = fun i => Spec.spread (Knn.points V c) (wq V c) (wk V c) (i 0) (i 1) (i 2) := by
  refine (dat1 V c).arrAt_eq_of_covers 7 _ (by decide +kernel) fun t hf y => ?_
  blk_simp
  rw [after7_eq]
  idx_vars y
  have he : ((View.whole main_v2_1).slice (win1_7.rect t)).emb (ix3 y0 y1 y2) = ix3 (batch t) y1 (point t y2) := by
    unfold batch point
    blk_ext [index7 t]
  have h0 : y0 = 0 := Subsingleton.elim _ _
  rw [he, h0]
  exact spread_at (reads V c hw t) hx hq hk y1 y2

end Cert.KernelIdeal.Attn

end
-- ==== Proof.KernelRun.lean ====
/- The kernel program's run with its four results: the values its host lines compute from what the two launches leave. -/
module

public import proofs.«01_k».proof.Proof.Host
public import proofs.«01_k».proof.Proof.Attn
public import proofs.«01_k».proof.Proof.Knn
public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair execution of the kernel program ends with each result at what the last host line leaves there and the arguments
    as launched. -/
theorem results : θ_run defs (onTc (τ := τ) (main (F := Ideal))) ⟨m, fun _ => 0, ρ⟩ (fun r => ∀ c : Dev nD,
      r.2.mem ((c.tc : Thread nD τ).loc main_v8) = W8 m ρ c (Proc.devRef .tc main_v8)
      ∧ r.2.mem ((c.tc : Thread nD τ).loc main_indices) = W8 m ρ c (Proc.devRef .tc main_indices)
      ∧ r.2.mem ((c.tc : Thread nD τ).loc main_v12) = W8 m ρ c (Proc.devRef .tc main_v12)
      ∧ r.2.mem ((c.tc : Thread nD τ).loc main_indices_1) = W8 m ρ c (Proc.devRef .tc main_indices_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v8 (by decide)), h c _ (mem_uc main_indices (by decide)),
       h c _ (mem_uc main_v12 (by decide)), h c _ (mem_uc main_indices_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

section Values
variable (c : Dev nD)

/-- The points, as the launch memory holds them. -/
def points : Spec.Points := fun b ch n => m ((c : Thread nD τ).loc main_arg0) (ix3 b ch n)
/-- The query weights, as the launch memory holds them. -/
def wq : Spec.Weights := fun o i => m ((c : Thread nD τ).loc main_arg1) (ix2 o i)
/-- The key weights, as the launch memory holds them. -/
def wk : Spec.Weights := fun o i => m ((c : Thread nD τ).loc main_arg2) (ix2 o i)
/-- The value weights, as the launch memory holds them. -/
def wv : Spec.Weights := fun o i => m ((c : Thread nD τ).loc main_arg3) (ix2 o i)

/-- The second launch finds the points it was given. -/
theorem points_kept : Knn.points (V2 m ρ) c = points m c := by
  have e := W2_args m ρ c main_arg0 (by decide)
  funext b ch n
  exact congrFun e (ix3 b ch n)

/-- The second launch finds the query weights it was given. -/
theorem wq_kept : Attn.wq (V2 m ρ) c = wq m c := by
  have e := W2_args m ρ c main_arg1 (by decide)
  funext o i
  exact congrFun e (ix2 o i)

/-- The second launch finds the key weights it was given. -/
theorem wk_kept : Attn.wk (V2 m ρ) c = wk m c := by
  have e := W2_args m ρ c main_arg2 (by decide)
  funext o i
  exact congrFun e (ix2 o i)

/-- The second launch finds the value weights it was given. -/
theorem wv_kept : Attn.wv (V2 m ρ) c = wv m c := by
  have e := W2_args m ρ c main_arg3 (by decide)
  funext o i
  exact congrFun e (ix2 o i)

variable (hx : ∀ b ch n, Spec.Finite (points m c b ch n)) (hq : ∀ o i, Spec.Finite (wq m c o i)) (hk : ∀ o i, Spec.Finite (wk m c o i))

include hx in
/-- The second launch finds the neighbours' words that the first left, turned. -/
theorem words (b : Fin 4) (k : Fin 32) (n : Fin 2048) :
    V2 m ρ c main_v1 (ix3 b k n) = BitVec.ofNat 32 (Spec.near (Knn.points (V2 m ρ) c) b n k).val := by
  have e0 : Knn.points (V0 m ρ) c = points m c := rfl
  have e1 : W1 m ρ c (Proc.devRef .tc main_v0) = (dat0 (V0 m ρ) c).arrAt 2 cfg0.N := W1_arr m ρ c 2
  have e2 : W2 m ρ c (Proc.devRef .tc main_v1)
      = transpose S4x32x2048 [0, 2, 1] (W1 m ρ c (Proc.devRef .tc main_v0)) transposes_S4x2048x32_S4x32x2048_0_2_1 := by
    unfold W2
    after_reads_simp
  rw [points_kept]
  refine (congrFun e2 (ix3 b k n)).trans ?_
  rw [e1, Knn.arrAt_eq (V0 m ρ) c fun b n m' => (Spec.nearness_finite hx b n m').ne_bot, e0]
  pointwise

include hx hq hk in
/-- What the second launch leaves in its first result array. -/
theorem mixed_left : W3 m ρ c (Proc.devRef .tc main_v2_0)
    = fun i => Spec.mixed (points m c) (wq m c) (wk m c) (wv m c) (i 0) (Attn.head (i 1)) (Attn.place (i 1)) (i 2) := by
  have h := Attn.mixed_arr (V2 m ρ) c (words m ρ c hx) (by rw [points_kept]; exact hx) (by rw [wq_kept]; exact hq) (by rw [wk_kept]; exact hk)
  rw [points_kept, wq_kept, wk_kept, wv_kept] at h
  exact (W3_arr m ρ c 6).trans h

include hx hq hk in
/-- What the second launch leaves in its second result array. -/
theorem spread_left : W3 m ρ c (Proc.devRef .tc main_v2_1)
    = fun i => Spec.spread (points m c) (wq m c) (wk m c) (i 0) (i 1) (i 2) := by
  have h := Attn.spread_arr (V2 m ρ) c (words m ρ c hx) (by rw [points_kept]; exact hx) (by rw [wq_kept]; exact hq) (by rw [wk_kept]; exact hk)
  rw [points_kept, wq_kept, wk_kept] at h
  exact (W3_arr m ρ c 7).trans h

end Values

end Cert.KernelIdeal.Run

end
-- ==== Proof.Ref.lean ====
/- The reference's intermediate arrays, read at one position: they are the functions of Spec. -/
module

public import proofs.«01_k».proof.Proof.Finite
public import proofs.«01_k».proof.Proof.Pick
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Ref

open Idealize.ShloMosaic Idealize.ShloMosaic.TcCoe
open Cert.ReferenceIdeal Cert.ReferenceIdeal.Gen Cert.ReferenceIdeal.Value

variable (V : Valuation τ sig (Elt Ideal))

/-- The points, as the first argument holds them. -/
def points : Spec.Points := fun b ch n => V (Proc.devRef .tc main_arg0) (ix3 b ch n)
/-- The query weights, as the second argument holds them. -/
def wq : Spec.Weights := fun o i => V (Proc.devRef .tc main_arg1) (ix2 o i)
/-- The key weights, as the third argument holds them. -/
def wk : Spec.Weights := fun o i => V (Proc.devRef .tc main_arg2) (ix2 o i)
/-- The value weights, as the fourth argument holds them. -/
def wv : Spec.Weights := fun o i => V (Proc.devRef .tc main_arg3) (ix2 o i)

/-- The matrix of nearnesses. -/
theorem v11_at (b : Fin 4) (n m : Fin 2048) : res_main_v11 V (ix3 b n m) = Spec.nearness (points V) b n m := by
  unfold res_main_v11
  clean_types
  pointwise [res_main_v4]
  unfold Spec.nearness
  rw [zero_sub]
  rfl

/-- The neighbours' positions. -/
theorem indices_at (b : Fin 4) (n : Fin 2048) (k : Fin 32) :
    res_main_indices V (ix3 b n k) = BitVec.ofNat 32 (Spec.near (points V) b n k).val := by
  have h := Pick.topK_place (K := 32) (by decide) (res_main_v11 V) sliceFits_S4x2048x2048_S4x2048x32 b n k
  have e : (fun m : Fin 2048 => res_main_v11 V (ix3 b n m)) = Spec.nearness (points V) b n := funext fun m => v11_at V b n m
  refine h.trans ?_
  rw [e]
  rfl

/-- The gather of the neighbours' points, where the table holds the word of a position. -/
theorem gather_points (A : FVec Ideal S4x128x2048 .f32) (J : IVec S4x2048x32x1 32) (b : Fin 4) (ch : Fin 128) (n : Fin 2048) (k : Fin 32)
    (q : Fin 2048) (hJ : J (ix4 b n k 0) = BitVec.ofNat 32 q.val) :
    Host.gather gather_S4x128x2048_S4x2048x32x1_S4x128x2048x32_1_2_0_0_2_3_11281 A J (ix4 b ch n k) = A (ix3 b ch q) := by
  refine congrArg A (funext fun e => Fin.ext ?_)
  have hs : gather_S4x128x2048_S4x2048x32x1_S4x128x2048x32_1_2_0_0_2_3_11281.siIdx (ix4 b ch n k) ⟨0, by decide⟩ = ix4 b n k 0 := by
    funext e
    match e with
    | ⟨0, _⟩ => rfl
    | ⟨1, _⟩ => rfl
    | ⟨2, _⟩ => rfl
    | ⟨3, _⟩ => rfl
  match e with
  | ⟨0, _⟩ => exact (by omega : 0 + b.val + 0 = b.val)
  | ⟨1, _⟩ => exact (by omega : 0 + 0 + ch.val = ch.val)
  | ⟨2, _⟩ =>
    show min (J (gather_S4x128x2048_S4x2048x32x1_S4x128x2048x32_1_2_0_0_2_3_11281.siIdx (ix4 b ch n k) ⟨0, by decide⟩)).toInt.toNat (2048 - 1) + 0 + 0 = q.val
    rw [hs, hJ, Pick.toInt_word]
    have := q.isLt
    omega

/-- The neighbours' offsets. -/
theorem v21_at (b : Fin 4) (ch : Fin 128) (n : Fin 2048) (k : Fin 32) :
    res_main_v21 V (ix4 b ch n k) = Spec.offset (points V) b ch n k := by
  have hi := indices_at V b n k
  unfold res_main_v21
  clean_types
  pointwise
  rw [gather_points _ _ b ch n k (Spec.near (points V) b n k) (by pointwise; rw [hi]; exact Pick.wrap_word _)]
  rfl

/-- The values. -/
theorem v34_at (b h : Fin 4) (n : Fin 2048) (k d : Fin 32) :
    res_main_v34 V (ix5 b h n k d) = Spec.lift (points V) (wv V) b (Spec.chan h d) n k := by
  unfold res_main_v34
  clean_types
  pointwise
  unfold Spec.lift
  refine Finset.sum_congr rfl fun x _ => ?_
  rw [v21_at, mul_comm]
  rfl

/-- The square root of the head's depth, as the reference computes it. -/
theorem root_at : (id (Host.sqrt (constant (F := Ideal) S_ .f32 0x42000000#32)) : FVec Ideal S_ .f32) ix0 = ((Real.sqrt 32 : ℝ) : EReal) := by
  show Ideal.sqrt (Ideal.ofBits .f32 0x42000000#32) = _
  rw [Consts.thirtyTwo, Ideal.sqrt_coe, if_neg (by norm_num)]

/-- The scaled scores. -/
theorem v40_at (b h : Fin 4) (n : Fin 2048) (k : Fin 32) :
    res_main_v40 V (ix5 b h n 0 k) = Spec.score (points V) (wq V) (wk V) b h n k := by
  unfold res_main_v40
  clean_types
  pointwise
  rw [show (id (Host.sqrt (constant (F := Ideal) S_ .f32 1107296256#32)) : FVec Ideal S_ .f32) ix0 = _ from root_at,
    Ideal.div_coe (Real.sqrt_ne_zero'.2 (by norm_num)), one_div]
  unfold Spec.score
  refine congrArg (· * _) (Finset.sum_congr rfl fun d _ => congr (congrArg _ ?_) ?_)
  · exact Finset.sum_congr rfl fun x _ => mul_comm _ _
  · refine Finset.sum_congr rfl fun x _ => ?_
    rw [v21_at, mul_comm]
    rfl

/-- The greatest of the last axis, at one position. -/
theorem max_at (X : FVec Ideal S4x4x2048x1x32 .f32) (b h : Fin 4) (n : Fin 2048) :
    Host.reduce FloatOps.maximumf X (constant S_ .f32 0xFF800000#32) reducesTo_S4x4x2048x1x32_S4x4x2048x1_d4 h_S_ (ix4 b h n 0)
      = Finset.univ.fold max ⊥ fun k => X (ix5 b h n 0 k) := by
  pointwise
  rw [Consts.neg_inf]

/-- The exponential of an array less a broadcast of row values, at one position. -/
theorem weight_of (X : FVec Ideal S4x4x2048x1x32 .f32) (M : FVec Ideal S4x4x2048x1 .f32) (b h : Fin 4) (n : Fin 2048) (k : Fin 32) {u v : EReal}
    (hX : X (ix5 b h n 0 k) = u) (hM : M (ix4 b h n 0) = v) :
    Host.exp (subf X (broadcastInDim S4x4x2048x1x32 ![0, 1, 2, 3, 4] bcast_S4x4x2048x1x1_S4x4x2048x1x32_0_1_2_3_4
      (broadcastInDim S4x4x2048x1x1 ![0, 1, 2, 3] bcast_S4x4x2048x1_S4x4x2048x1x1_0_1_2_3
        (maximumf (broadcastInDim S4x4x2048x1 ![] bcast_S_S4x4x2048x1 (constant S_ .f32 0xFF800000#32)) M)))) (ix5 b h n 0 k)
      = Ideal.exp (u - v) := by
  pointwise
  rw [hX, hM, Consts.neg_inf, max_bot_left]

/-- The weights before the row is normalised. -/
theorem v47_at (b h : Fin 4) (n : Fin 2048) (k : Fin 32) :
    res_main_v47 V (ix5 b h n 0 k) = Spec.weight (points V) (wq V) (wk V) b h n k := by
  have hm : Host.reduce FloatOps.maximumf (res_main_v40 V) (constant S_ .f32 0xFF800000#32) reducesTo_S4x4x2048x1x32_S4x4x2048x1_d4 h_S_ (ix4 b h n 0)
      = Spec.peak (points V) (wq V) (wk V) b h n := by
    rw [max_at]
    exact congrArg (Finset.univ.fold max ⊥) (funext fun k => v40_at V b h n k)
  unfold res_main_v47
  clean_types
  exact weight_of _ _ _ _ _ _ (v40_at V b h n k) hm

/-- The attention rows. -/
theorem v51_at (b h : Fin 4) (n : Fin 2048) (k : Fin 32) :
    res_main_v51 V (ix5 b h n 0 k) = Spec.attn (points V) (wq V) (wk V) b h n k := by
  unfold res_main_v51
  clean_types
  pointwise
  simp only [v47_at]
  rfl

/-- The attention rows less their means. -/
theorem v5_at (b h : Fin 4) (n : Fin 2048) (k : Fin 32) :
    res_main_call0_call0_v5 V (ix5 b h n 0 k) = Spec.centred (points V) (wq V) (wk V) b h n k := by
  unfold res_main_call0_call0_v5
  clean_types
  pointwise
  simp only [v51_at]
  rw [Consts.thirtyTwo]
  rfl

/-- The divisor of the standard deviation is thirty-two. -/
theorem v8_at : res_main_call0_call0_v8 V ix0 = ((32 : ℝ) : EReal) := by
  unfold res_main_call0_call0_v8
  clean_types
  pointwise
  rw [Consts.thirtyTwo]
  have e : (FloatOps.sitofp FTy.f32 0#32 : Ideal .f32) = 0 := by
    show (((0#32).toInt : ℝ) : EReal) = 0
    simp
  rw [e, sub_zero]

/-- The standard deviations of the attention rows. -/
theorem v53_at (b h : Fin 4) (n : Fin 2048) :
    res_main_v53 V (ix3 b h n) = Spec.spread (points V) (wq V) (wk V) b h n := by
  unfold res_main_v53
  clean_types
  pointwise
  simp only [v5_at, v8_at]
  rw [if_pos (by exact_mod_cast (by norm_num : (0 : ℝ) < 32))]
  rfl

/-- The positions of the points with the widest attention rows, in descending order. -/
theorem indices_8_at (b h : Fin 4) (r : Fin 1024) : res_main_indices_8 V (ix3 b h r)
    = BitVec.ofNat 32 (Rounds.place (fun n => Spec.spread (points V) (wq V) (wk V) b h n) (r.castLE (by decide))).val := by
  refine (Pick.topK_place (K := 1024) (by decide) (res_main_v53 V) sliceFits_S4x4x2048_S4x4x1024 b h r).trans ?_
  rw [show (fun m : Fin 2048 => res_main_v53 V (ix3 b h m)) = _ from funext fun m => v53_at V b h m]
  rfl

/-- The positions of the points with the narrowest attention rows, in ascending order. -/
theorem indices_10_at (b h : Fin 4) (r : Fin 1024) : res_main_indices_10 V (ix3 b h r)
    = BitVec.ofNat 32 (Rounds.place (fun n => -Spec.spread (points V) (wq V) (wk V) b h n) (r.castLE (by decide))).val := by
  refine (Pick.topK_place (K := 1024) (by decide) (res_main_v54 V) sliceFits_S4x4x2048_S4x4x1024 b h r).trans ?_
  rw [show (fun m : Fin 2048 => res_main_v54 V (ix3 b h m)) = fun n => -Spec.spread (points V) (wq V) (wk V) b h n from
    funext fun m => congrArg (fun u : EReal => -u) (v53_at V b h m)]
  rfl

/-- The gather of the attention rows, where the table holds the word of a position. -/
theorem gather_rows (A : FVec Ideal S4x4x2048x1x32 .f32) (J : IVec S4x4x1024x32x1 32) (b h : Fin 4) (r : Fin 1024) (k : Fin 32)
    (q : Fin 2048) (hJ : J (ix5 b h r k 0) = BitVec.ofNat 32 q.val) :
    Host.gather gather_S4x4x2048x1x32_S4x4x1024x32x1_S4x4x1024x1x32_3_2_014_013_2_4_11111 A J (ix5 b h r 0 k) = A (ix5 b h q 0 k) := by
  refine congrArg A (funext fun e => Fin.ext ?_)
  have hs : gather_S4x4x2048x1x32_S4x4x1024x32x1_S4x4x1024x1x32_3_2_014_013_2_4_11111.siIdx (ix5 b h r 0 k) ⟨0, by decide⟩ = ix5 b h r k 0 := by
    funext e
    match e with
    | ⟨0, _⟩ => rfl
    | ⟨1, _⟩ => rfl
    | ⟨2, _⟩ => rfl
    | ⟨3, _⟩ => rfl
    | ⟨4, _⟩ => rfl
  match e with
  | ⟨0, _⟩ => exact (by omega : 0 + b.val + 0 = b.val)
  | ⟨1, _⟩ => exact (by omega : 0 + h.val + 0 = h.val)
  | ⟨2, _⟩ =>
    show min (J (gather_S4x4x2048x1x32_S4x4x1024x32x1_S4x4x1024x1x32_3_2_014_013_2_4_11111.siIdx (ix5 b h r 0 k) ⟨0, by decide⟩)).toInt.toNat (2048 - 1) + 0 + 0 = q.val
    rw [hs, hJ, Pick.toInt_word]
    have := q.isLt
    omega
  | ⟨3, _⟩ => rfl
  | ⟨4, _⟩ => exact (by omega : 0 + k.val + 0 = k.val)

/-- The gather of the values, where the table holds the word of a position. -/
theorem gather_values (A : FVec Ideal S4x4x2048x32x32 .f32) (J : IVec S4x4x1024x32x32x1 32) (b h : Fin 4) (r : Fin 1024) (k d : Fin 32)
    (q : Fin 2048) (hJ : J (ix6 b h r k d 0) = BitVec.ofNat 32 q.val) :
    Host.gather gather_S4x4x2048x32x32_S4x4x1024x32x32x1_S4x4x1024x32x32_n_2_0134_0134_2_5_11111 A J (ix5 b h r k d) = A (ix5 b h q k d) := by
  refine congrArg A (funext fun e => Fin.ext ?_)
  have hs : gather_S4x4x2048x32x32_S4x4x1024x32x32x1_S4x4x1024x32x32_n_2_0134_0134_2_5_11111.siIdx (ix5 b h r k d) ⟨0, by decide⟩ = ix6 b h r k d 0 := by
    funext e
    match e with
    | ⟨0, _⟩ => rfl
    | ⟨1, _⟩ => rfl
    | ⟨2, _⟩ => rfl
    | ⟨3, _⟩ => rfl
    | ⟨4, _⟩ => rfl
    | ⟨5, _⟩ => rfl
  match e with
  | ⟨0, _⟩ => exact (by omega : 0 + b.val + 0 = b.val)
  | ⟨1, _⟩ => exact (by omega : 0 + h.val + 0 = h.val)
  | ⟨2, _⟩ =>
    show min (J (gather_S4x4x2048x32x32_S4x4x1024x32x32x1_S4x4x1024x32x32_n_2_0134_0134_2_5_11111.siIdx (ix5 b h r k d) ⟨0, by decide⟩)).toInt.toNat (2048 - 1) + 0 + 0 = q.val
    rw [hs, hJ, Pick.toInt_word]
    have := q.isLt
    omega
  | ⟨3, _⟩ => exact (by omega : 0 + k.val + 0 = k.val)
  | ⟨4, _⟩ => exact (by omega : 0 + d.val + 0 = d.val)

/-- Heads and their channels laid side by side: channel `d` of head `h` of the rearranged array. -/
theorem lay_at (T : FVec Ideal S4x4x1024x1x32 .f32) (b h : Fin 4) (d : Fin 32) (r : Fin 1024) :
    (transpose S4x128x1024 [0, 2, 1] (shapeCast _ (transpose S4x1024x4x32 [0, 2, 1, 3] (shapeCast _ T
      shapeCasts_S4x4x1024x1x32_S4x4x1024x32) transposes_S4x4x1024x32_S4x1024x4x32_0_2_1_3) shapeCasts_S4x1024x4x32_S4x1024x128)
      transposes_S4x1024x128_S4x128x1024_0_2_1 : FVec Ideal S4x128x1024 .f32) (ix3 b (Spec.chan h d) r) = T (ix5 b h r 0 d) := by
  pointwise
  have eh : (⟨(Spec.chan h d).val / 32, by omega⟩ : Fin 4) = h :=
    Fin.ext (by have := d.isLt; show (h.val * 32 + d.val) / 32 = h.val; omega)
  have ed : (⟨(Spec.chan h d).val % 32, by omega⟩ : Fin 32) = d :=
    Fin.ext (by have := d.isLt; show (h.val * 32 + d.val) % 32 = d.val; omega)
  exact congrArg T (congr (congrArg (fun (u : Fin 4) (v : Fin 32) => (ix5 b u r 0 v : S4x4x1024x1x32.Idx)) eh) ed)

/-- What the reference computes last: the attention's output at the positions in two tables, one for the rows and one for the values. -/
def output (A : FVec Ideal S4x4x2048x1x32 .f32) (B : FVec Ideal S4x4x2048x32x32 .f32) (J : IVec S4x4x1024x32x1 32)
    (K : IVec S4x4x1024x32x32x1 32) : FVec Ideal S4x128x1024 .f32 :=
  transpose S4x128x1024 [0, 2, 1] (shapeCast _ (transpose S4x1024x4x32 [0, 2, 1, 3] (shapeCast _ (Host.dotGeneral
    dot_S4x4x1024x1x32_S4x4x1024x32x32_S4x4x1024x1x32_4_3_3_4_012_012 none
    (select (broadcastInDim S4x4x1024x1x32 ![0, 1, 2, 4] bcast_S4x4x1024x32_S4x4x1024x1x32_0_1_2_4
      (Host.reduce IntOp.andi (andi (cmpi .sge J (broadcastInDim S4x4x1024x32x1 ![] bcast_S_S4x4x1024x32x1 (constantI S_ 32 0#32)))
        (cmpi .sle J (broadcastInDim S4x4x1024x32x1 ![0, 1, 2, 3, 4] bcast_S1x1x1x1x1_S4x4x1024x32x1_0_1_2_3_4
          (broadcastInDim S1x1x1x1x1 ![4] bcast_S1_S1x1x1x1x1_4 (constantI S1 32 2047#32)))))
        (constantI S_ 1 1#1) reducesTo_S4x4x1024x32x1_S4x4x1024x32_d4 h_S_))
      (Host.gather gather_S4x4x2048x1x32_S4x4x1024x32x1_S4x4x1024x1x32_3_2_014_013_2_4_11111 A J)
      (broadcastInDim S4x4x1024x1x32 ![] bcast_S_S4x4x1024x1x32 (constant S_ .f32 0x7FC00000#32)))
    (select (Host.reduce IntOp.andi (andi (cmpi .sge K (broadcastInDim S4x4x1024x32x32x1 ![] bcast_S_S4x4x1024x32x32x1 (constantI S_ 32 0#32)))
        (cmpi .sle K (broadcastInDim S4x4x1024x32x32x1 ![0, 1, 2, 3, 4, 5] bcast_S1x1x1x1x1x1_S4x4x1024x32x32x1_0_1_2_3_4_5
          (broadcastInDim S1x1x1x1x1x1 ![5] bcast_S1_S1x1x1x1x1x1_5 (constantI S1 32 2047#32)))))
        (constantI S_ 1 1#1) reducesTo_S4x4x1024x32x32x1_S4x4x1024x32x32_d5 h_S_)
      (Host.gather gather_S4x4x2048x32x32_S4x4x1024x32x32x1_S4x4x1024x32x32_n_2_0134_0134_2_5_11111 B K)
      (broadcastInDim S4x4x1024x32x32 ![] bcast_S_S4x4x1024x32x32 (constant S_ .f32 0x7FC00000#32))))
    shapeCasts_S4x4x1024x1x32_S4x4x1024x32) transposes_S4x4x1024x32_S4x1024x4x32_0_2_1_3) shapeCasts_S4x1024x4x32_S4x1024x128)
    transposes_S4x1024x128_S4x128x1024_0_2_1

/-- An entry of the output, where both tables hold the word of one position. -/
theorem output_at (A : FVec Ideal S4x4x2048x1x32 .f32) (B : FVec Ideal S4x4x2048x32x32 .f32) (J : IVec S4x4x1024x32x1 32)
    (K : IVec S4x4x1024x32x32x1 32) (b h : Fin 4) (d : Fin 32) (r : Fin 1024) (q : Fin 2048)
    (hJ : ∀ k, J (ix5 b h r k 0) = BitVec.ofNat 32 q.val) (hK : ∀ k d, K (ix6 b h r k d 0) = BitVec.ofNat 32 q.val) :
    output A B J K (ix3 b (Spec.chan h d) r) = ∑ k, A (ix5 b h q 0 k) * B (ix5 b h q k d) := by
  unfold output
  refine (lay_at _ b h d r).trans ?_
  pointwise
  refine Finset.sum_congr rfl fun k _ => ?_
  rw [gather_rows A J b h r k q (hJ k), gather_values B K b h r k d q (hK k d)]
  refine congr (congrArg _ (Pick.in_bounds (fun x => J (ix5 b h r k x)) q (hJ k) _ _)) ?_
  refine Pick.in_bounds_of _ K q (fun i hi => ?_) _ _
  have hi := (Finset.mem_filter.1 hi).2
  have e : i = ix6 b h r k d 0 := by
    funext a
    match a with
    | ⟨0, _⟩ => exact congrFun hi 0
    | ⟨1, _⟩ => exact congrFun hi 1
    | ⟨2, _⟩ => exact congrFun hi 2
    | ⟨3, _⟩ => exact congrFun hi 3
    | ⟨4, _⟩ => exact congrFun hi 4
    | ⟨5, _⟩ => exact Subsingleton.elim (α := Fin 1) _ _
  rw [e]
  exact hK k d

/-- The table of the rows' gather. -/
theorem table_rows (I : IVec S4x4x1024 32) (b h : Fin 4) (r : Fin 1024) (k : Fin 32) (q : Fin 2048) (hI : I (ix3 b h r) = BitVec.ofNat 32 q.val)
    (T : IVec S4x4x1024x1x32 32) (hT : T = broadcastInDim S4x4x1024x1x32 ![0, 1, 2, 3, 4] bcast_S4x4x1024x1x1_S4x4x1024x1x32_0_1_2_3_4
      (broadcastInDim S4x4x1024x1x1 ![0, 1, 2] bcast_S4x4x1024_S4x4x1024x1x1_0_1_2 I)) :
    (shapeCast _ (select (cmpi .slt T (broadcastInDim S4x4x1024x1x32 ![] bcast_S_S4x4x1024x1x32 (constantI S_ 32 0#32)))
      (addi T (broadcastInDim S4x4x1024x1x32 ![] bcast_S_S4x4x1024x1x32 (constantI S_ 32 2048#32))) T)
      shapeCasts_S4x4x1024x1x32_S4x4x1024x32x1 : IVec S4x4x1024x32x1 32) (ix5 b h r k 0) = BitVec.ofNat 32 q.val := by
  subst hT
  pointwise
  rw [hI]
  exact Pick.wrap_word q

/-- The table of the values' gather. -/
theorem table_values (I : IVec S4x4x1024 32) (b h : Fin 4) (r : Fin 1024) (k d : Fin 32) (q : Fin 2048) (hI : I (ix3 b h r) = BitVec.ofNat 32 q.val)
    (T : IVec S4x4x1024x32x32 32) (hT : T = broadcastInDim S4x4x1024x32x32 ![0, 1, 2, 3, 4] bcast_S4x4x1024x1x1_S4x4x1024x32x32_0_1_2_3_4
      (broadcastInDim S4x4x1024x1x1 ![0, 1, 2] bcast_S4x4x1024_S4x4x1024x1x1_0_1_2 I)) :
    (shapeCast _ (select (cmpi .slt T (broadcastInDim S4x4x1024x32x32 ![] bcast_S_S4x4x1024x32x32 (constantI S_ 32 0#32)))
      (addi T (broadcastInDim S4x4x1024x32x32 ![] bcast_S_S4x4x1024x32x32 (constantI S_ 32 2048#32))) T)
      shapeCasts_S4x4x1024x32x32_S4x4x1024x32x32x1 : IVec S4x4x1024x32x32x1 32) (ix6 b h r k d 0) = BitVec.ofNat 32 q.val := by
  subst hT
  pointwise
  rw [hI]
  exact Pick.wrap_word q

/-- The first result at one position. -/
theorem widest_at (b h : Fin 4) (d : Fin 32) (r : Fin 1024) (q : Fin 2048) (hq : res_main_indices_8 V (ix3 b h r) = BitVec.ofNat 32 q.val) :
    output (res_main_v51 V) (res_main_v34 V) (res_main_call1_v5 V) (res_main_call2_v5 V) (ix3 b (Spec.chan h d) r)
      = Spec.mixed (points V) (wq V) (wk V) (wv V) b h d q := by
  rw [output_at (res_main_v51 V) (res_main_v34 V) (res_main_call1_v5 V) (res_main_call2_v5 V) b h d r q
    (fun k => table_rows (res_main_indices_8 V) b h r k q hq (res_main_v56 V) rfl)
    (fun k d => table_values (res_main_indices_8 V) b h r k d q hq (res_main_v59 V) rfl)]
  refine Finset.sum_congr rfl fun k _ => ?_
  rw [v51_at, v34_at]

/-- The third result at one position. -/
theorem narrowest_at (b h : Fin 4) (d : Fin 32) (r : Fin 1024) (q : Fin 2048) (hq : res_main_indices_10 V (ix3 b h r) = BitVec.ofNat 32 q.val) :
    output (res_main_v51 V) (res_main_v34 V) (res_main_call3_v5 V) (res_main_call4_v5 V) (ix3 b (Spec.chan h d) r)
      = Spec.mixed (points V) (wq V) (wk V) (wv V) b h d q := by
  rw [output_at (res_main_v51 V) (res_main_v34 V) (res_main_call3_v5 V) (res_main_call4_v5 V) b h d r q
    (fun k => table_rows (res_main_indices_10 V) b h r k q hq (res_main_v67 V) rfl)
    (fun k d => table_values (res_main_indices_10 V) b h r k d q hq (res_main_v70 V) rfl)]
  refine Finset.sum_congr rfl fun k _ => ?_
  rw [v51_at, v34_at]

end Cert.ReferenceIdeal.Ref

end
-- ==== Proof.Values.lean ====
/- The value claim: on finite points, query weights and key weights, the ideal kernel and the ideal reference end with the same
   four results. -/
module

public import proofs.«01_k».proof.Defs
public import proofs.«01_k».proof.Proof.KernelRun
public import proofs.«01_k».proof.Proof.Ref

@[expose] public section

set_option maxRecDepth 16384

noncomputable section

namespace Cert.Proof.Values

open Idealize.ShloMosaic Idealize.ShloMosaic.TcCoe Idealize.SL.Sem

/-- The shape relations that the precondition's operations take. -/
instance facts : Cert.Pre_finite.Facts where
  bcast_S_S4x128x2048 := by decide
  bcast_S_S128x128 := by decide

/-- An extended real whose absolute value is below infinity is a real number. -/
theorem finite_of_abs (a : EReal) (h : FloatOps.cmpf (F := Ideal) (φ := .f32) .olt (FloatOps.hostAbsf (F := Ideal) (φ := .f32) a)
    (Ideal.ofBits .f32 0x7F800000#32) = 1#1) : Spec.Finite a := by
  rw [Consts.inf] at h
  have hlt : ¬ max a (-a) = ⊤ := by
    intro e
    have h' : Ideal.cmp .olt (max a (-a)) ⊤ = 1#1 := h
    rw [e] at h'
    simp [Ideal.cmp] at h'
  induction a with
  | bot => exact absurd (by simp) hlt
  | top => exact absurd (by simp) hlt
  | coe r => exact .coe r

section Inputs
variable (m : (ℓ : Loc Cert.KernelIdeal.nD Cert.KernelIdeal.τ Cert.KernelIdeal.sig) → Buf (Elt Ideal) ℓ) (hm : Cert.Pre_KernelIdeal_finite m)
  (c : Dev Cert.KernelIdeal.nD)
include hm

/-- The points are real numbers. -/
theorem points_finite (b : Fin 4) (ch : Fin 128) (n : Fin 2048) : Spec.Finite (Cert.KernelIdeal.Run.points m c b ch n) :=
  finite_of_abs _ (congrFun (hm c).1 (ix3 b ch n))

/-- The query weights are real numbers. -/
theorem wq_finite (o i : Fin 128) : Spec.Finite (Cert.KernelIdeal.Run.wq m c o i) :=
  finite_of_abs _ (congrFun (hm c).2.1 (ix2 o i))

/-- The key weights are real numbers. -/
theorem wk_finite (o i : Fin 128) : Spec.Finite (Cert.KernelIdeal.Run.wk m c o i) :=
  finite_of_abs _ (congrFun (hm c).2.2 (ix2 o i))

end Inputs

section Results

/-- Arrays of three axes with equal entries are equal. -/
theorem ext3 {A B C : ℕ} {α : Type} {f g : (⟨3, ![A, B, C]⟩ : Shape).Idx → α} (h : ∀ a b c, f (ix3 a b c) = g (ix3 a b c)) : f = g := by
  funext i
  have hi : i = ix3 (i 0) (i 1) (i 2) := ValueIdx.eq_ix3 i
  rw [hi]
  exact h _ _ _

/-- The host's top-k of the rows of an array, entry by entry. -/
theorem top_at (X : FVec Ideal Cert.KernelIdeal.S4x4x2048 .f32) (b h : Fin 4) (r : Fin 1024) :
    Cert.KernelIdeal.Host.top X (ix3 b h r) = BitVec.ofNat 32 (Rounds.place (fun n => X (ix3 b h n)) (r.castLE (by decide))).val :=
  Pick.topK_place (by decide) X _ b h r

variable (m : (ℓ : Loc Cert.KernelIdeal.nD Cert.KernelIdeal.τ Cert.KernelIdeal.sig) → Buf (Elt Ideal) ℓ) (ρ : Dev Cert.KernelIdeal.nD → PrngReg)
  (hm : Cert.Pre_KernelIdeal_finite m) (c : Dev Cert.KernelIdeal.nD)
  (V : Valuation Cert.ReferenceIdeal.τ Cert.ReferenceIdeal.sig (Elt Ideal))
  (hp : Cert.ReferenceIdeal.Ref.points V = Cert.KernelIdeal.Run.points m c) (hq : Cert.ReferenceIdeal.Ref.wq V = Cert.KernelIdeal.Run.wq m c)
  (hk : Cert.ReferenceIdeal.Ref.wk V = Cert.KernelIdeal.Run.wk m c) (hv : Cert.ReferenceIdeal.Ref.wv V = Cert.KernelIdeal.Run.wv m c)

include hm hp hq hk

/-- The second results agree. -/
theorem widest_indices : Cert.ReferenceIdeal.Value.res_main_indices_8 V
    = Cert.KernelIdeal.Gen.W8 m ρ c (Proc.devRef .tc Cert.KernelIdeal.main_indices) := by
  rw [Cert.KernelIdeal.Host.end_indices, Cert.KernelIdeal.Run.spread_left m ρ c (points_finite m hm c) (wq_finite m hm c) (wk_finite m hm c)]
  refine ext3 fun b h r => ?_
  refine (Cert.ReferenceIdeal.Ref.indices_8_at V b h r).trans ?_
  rw [hp, hq, hk]
  exact Eq.symm ((top_at _ b h r).trans rfl)

/-- The fourth results agree. -/
theorem narrowest_indices : Cert.ReferenceIdeal.Value.res_main_indices_10 V
    = Cert.KernelIdeal.Gen.W8 m ρ c (Proc.devRef .tc Cert.KernelIdeal.main_indices_1) := by
  rw [Cert.KernelIdeal.Host.end_indices_1, Cert.KernelIdeal.Run.spread_left m ρ c (points_finite m hm c) (wq_finite m hm c) (wk_finite m hm c)]
  refine ext3 fun b h r => ?_
  refine (Cert.ReferenceIdeal.Ref.indices_10_at V b h r).trans ?_
  rw [hp, hq, hk]
  exact Eq.symm ((top_at _ b h r).trans rfl)

include hv

/-- Columns of the attention's output at a table of positions that both programs hold agree. -/
theorem columns_agree (I : IVec Cert.KernelIdeal.S4x4x1024 32) (O : FVec Ideal Cert.KernelIdeal.S4x128x1024 .f32)
    (hI : ∀ b h r, ∃ q : Fin 2048, I (ix3 b h r) = BitVec.ofNat 32 q.val)
    (hO : ∀ (b h : Fin 4) (d : Fin 32) (r : Fin 1024) (q : Fin 2048), I (ix3 b h r) = BitVec.ofNat 32 q.val → O (ix3 b (Spec.chan h d) r)
      = Spec.mixed (Cert.ReferenceIdeal.Ref.points V) (Cert.ReferenceIdeal.Ref.wq V) (Cert.ReferenceIdeal.Ref.wk V) (Cert.ReferenceIdeal.Ref.wv V) b h d q) :
    O = Cert.KernelIdeal.Host.columns (Cert.KernelIdeal.Gen.W3 m ρ c (Proc.devRef .tc Cert.KernelIdeal.main_v2_0)) I := by
  rw [Cert.KernelIdeal.Run.mixed_left m ρ c (points_finite m hm c) (wq_finite m hm c) (wk_finite m hm c)]
  refine ext3 fun b ch r => ?_
  obtain ⟨q, hq'⟩ := hI b (Cert.KernelIdeal.Attn.head ch) r
  have h1 := hO b (Cert.KernelIdeal.Attn.head ch) (Cert.KernelIdeal.Attn.place ch) r q hq'
  rw [Cert.KernelIdeal.Attn.chan_eq, hp, hq, hk, hv] at h1
  have h2 := Cert.KernelIdeal.Host.columns_at (fun i => Spec.mixed (Cert.KernelIdeal.Run.points m c) (Cert.KernelIdeal.Run.wq m c) (Cert.KernelIdeal.Run.wk m c)
    (Cert.KernelIdeal.Run.wv m c) (i 0) (Cert.KernelIdeal.Attn.head (i 1)) (Cert.KernelIdeal.Attn.place (i 1)) (i 2)) I b (Cert.KernelIdeal.Attn.head ch)
    (Cert.KernelIdeal.Attn.place ch) r q ch (congrArg Fin.val (Cert.KernelIdeal.Attn.chan_eq ch).symm) hq'
  exact h1.trans h2.symm

/-- The first results agree. -/
theorem widest : Cert.ReferenceIdeal.Ref.output (Cert.ReferenceIdeal.Value.res_main_v51 V) (Cert.ReferenceIdeal.Value.res_main_v34 V)
      (Cert.ReferenceIdeal.Value.res_main_call1_v5 V) (Cert.ReferenceIdeal.Value.res_main_call2_v5 V)
    = Cert.KernelIdeal.Gen.W8 m ρ c (Proc.devRef .tc Cert.KernelIdeal.main_v8) := by
  have hi := widest_indices m ρ hm c V hp hq hk
  rw [Cert.KernelIdeal.Host.end_indices] at hi
  rw [Cert.KernelIdeal.Host.end_v8, ← hi]
  exact columns_agree m ρ hm c V hp hq hk hv _ _ (fun b h r => ⟨_, Cert.ReferenceIdeal.Ref.indices_8_at V b h r⟩)
    fun b h d r q => Cert.ReferenceIdeal.Ref.widest_at V b h d r q

/-- The third results agree. -/
theorem narrowest : Cert.ReferenceIdeal.Ref.output (Cert.ReferenceIdeal.Value.res_main_v51 V) (Cert.ReferenceIdeal.Value.res_main_v34 V)
      (Cert.ReferenceIdeal.Value.res_main_call3_v5 V) (Cert.ReferenceIdeal.Value.res_main_call4_v5 V)
    = Cert.KernelIdeal.Gen.W8 m ρ c (Proc.devRef .tc Cert.KernelIdeal.main_v12) := by
  have hi := narrowest_indices m ρ hm c V hp hq hk
  rw [Cert.KernelIdeal.Host.end_indices_1] at hi
  rw [Cert.KernelIdeal.Host.end_v12, ← hi]
  exact columns_agree m ρ hm c V hp hq hk hv _ _ (fun b h r => ⟨_, Cert.ReferenceIdeal.Ref.indices_10_at V b h r⟩)
    fun b h d r q => Cert.ReferenceIdeal.Ref.narrowest_at V b h d r q

end Results

open Idealize.ShloMosaic.StableHlo in
/-- From memories that agree on the arguments, both ideal programs run to the end with the same four results. -/
theorem algebraic : Cert.algebraic_KernelIdeal_ReferenceIdeal_pre_finite := by
  intro m ρ m' ρ' hm hagree
  refine ⟨_, _, _, _, Cert.KernelIdeal.Run.results m ρ, ?_⟩
  refine (θ_run Cert.ReferenceIdeal.defs _ _).mono (fun r h c => ?_) (Cert.ReferenceIdeal.Value.run (F := Ideal) m' ρ')
  obtain ⟨a0, a1, a2, a3⟩ := hagree c
  have hp : Cert.ReferenceIdeal.Ref.points (launchContents m' c) = Cert.KernelIdeal.Run.points m c :=
    funext fun b => funext fun ch => funext fun n => congrFun a0 (ix3 b ch n)
  have hq : Cert.ReferenceIdeal.Ref.wq (launchContents m' c) = Cert.KernelIdeal.Run.wq m c :=
    funext fun o => funext fun i => congrFun a1 (ix2 o i)
  have hk : Cert.ReferenceIdeal.Ref.wk (launchContents m' c) = Cert.KernelIdeal.Run.wk m c :=
    funext fun o => funext fun i => congrFun a2 (ix2 o i)
  have hv : Cert.ReferenceIdeal.Ref.wv (launchContents m' c) = Cert.KernelIdeal.Run.wv m c :=
    funext fun o => funext fun i => congrFun a3 (ix2 o i)
  obtain ⟨h0, h1, h2, h3, hargs⟩ := h c
  exact ⟨h0.trans (widest m ρ hm c _ hp hq hk hv), h1.trans (widest_indices m ρ hm c _ hp hq hk),
    h2.trans (narrowest m ρ hm c _ hp hq hk hv), h3.trans (narrowest_indices m ρ hm c _ hp hq hk), hargs⟩

end Cert.Proof.Values

end
-- ==== Proof.lean ====
/- The claim of the certificate, assembled from the modules that prove its parts. -/
module

public import proofs.«01_k».proof.Defs
public import proofs.«01_k».proof.Proof.Frames
public import proofs.«01_k».proof.Proof.Values

@[expose] public section

/-- Everything that is claimed of the kernel. -/
theorem Cert.Proof.claim : Cert.Claim :=
  ⟨Cert.Kernel.Gen.facts, Cert.KernelIdeal.Gen.facts, Cert.ReferenceIdeal.Gen.facts, Cert.Proof.Values.facts,
    Cert.Proof.Frames.kernel, Cert.Proof.Frames.kernelIdeal, fun m ρ _ => Cert.Proof.Frames.kernelIdeal m ρ trivial,
    Cert.Proof.Frames.referenceIdeal, fun m ρ _ => Cert.Proof.Frames.referenceIdeal m ρ trivial,
    Cert.Proof.Frames.preserves, Cert.Proof.Values.algebraic⟩
